-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 512]⟩ ⟨2, ![1024, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x512 : Shape := ⟨3, ![1, 1024, 512]⟩
abbrev S512 : Shape := ⟨1, ![512]⟩
abbrev S1x512 : Shape := ⟨2, ![1, 512]⟩
abbrev S512x512 : Shape := ⟨2, ![512, 512]⟩
abbrev S8x32x512 : Shape := ⟨3, ![8, 32, 512]⟩
abbrev S4x32x512 : Shape := ⟨3, ![4, 32, 512]⟩
abbrev S8 : Shape := ⟨1, ![8]⟩
abbrev S4 : Shape := ⟨1, ![4]⟩
abbrev S_ : Shape := ⟨0, ![]⟩
abbrev S1x32x512 : Shape := ⟨3, ![1, 32, 512]⟩
abbrev S32x512 : Shape := ⟨2, ![32, 512]⟩
abbrev S1 : Shape := ⟨1, ![1]⟩
abbrev S32 : Shape := ⟨1, ![32]⟩
abbrev S32x1 : Shape := ⟨2, ![32, 1]⟩

abbrev nBuf : Space → Nat
  | .hbm => 4
  | .vmem => 8
  | .smem => 0
  | _ => 0

abbrev bufTy : (tb : Table) → Fin (tcTables nBuf tb) → BufTy
  | .hbm, ⟨0, _⟩ => ⟨S1x1024x512, .bf16⟩
  | .hbm, ⟨1, _⟩ => ⟨S512, .bf16⟩
  | .hbm, ⟨2, _⟩ => ⟨S1x512, .bf16⟩
  | .hbm, ⟨3, _⟩ => ⟨S512x512, .f32⟩
  | .local _ .vmem, ⟨0, _⟩ => ⟨S1x1024x512, .bf16⟩
  | .local _ .vmem, ⟨1, _⟩ => ⟨S1x512, .bf16⟩
  | .local _ .vmem, ⟨2, _⟩ => ⟨S512x512, .f32⟩
  | .local _ .vmem, ⟨3, _⟩ => ⟨S8x32x512, .bf16⟩
  | .local _ .vmem, ⟨4, _⟩ => ⟨S8x32x512, .bf16⟩
  | .local _ .vmem, ⟨5, _⟩ => ⟨S4x32x512, .bf16⟩
  | .local _ .vmem, ⟨6, _⟩ => ⟨S4x32x512, .bf16⟩
  | .local _ .vmem, ⟨7, _⟩ => ⟨S4x32x512, .bf16⟩
  | _, _ => ⟨S1x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v28 : BitVec 32 := Scalar.muli v9 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32_22 v34
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_23 : BitVec 32 := 2#32
  let v36 : BitVec 32 := Scalar.muli v10 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v42 : BitVec 32 := Scalar.muli v5 c2_i32_28
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v44 : BitVec 32 := Scalar.muli v11 c1_i32_29
  let v45 : BitVec 32 := Scalar.addi v43 v44
  v45.toNat
def k0_off1 (d0 : Dev nD) (c0_i32_30 : BitVec 32) : Fin 3 → Nat :=
  let c0 : Index := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c512_i32_15 : BitVec 32 := 512#32
  let v26 : BitVec 32 := Scalar.muli v25 c512_i32_15
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32 : BitVec 32 := 128#32
  let v46 : BitVec 32 := Scalar.muli v13 c128_i32
  let v47 : BitVec 32 := Scalar.addi v26 v46
  let v48 : BitVec 32 := Scalar.addi v47 c0_i32_30
  let v49 : Index := Scalar.indexCast v48
  let c0_31 : Index := 0#32
  ![0, v49.toNat, 0]
def k0_dev4 (d0 : Dev nD) : Nat :=
  let c0_i32_40 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_39 : BitVec 32 := 4#32
  let v55 : BitVec 32 := Scalar.muli v9 c4_i32_39
  let v56 : BitVec 32 := Scalar.addi c0_i32_40 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v57 : BitVec 32 := Scalar.muli v5 c2_i32_41
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v59 : BitVec 32 := Scalar.muli v8 c1_i32_42
  let v60 : BitVec 32 := Scalar.addi v58 v59
  v60.toNat
def k0_dev5 (d0 : Dev nD) : Nat :=
  let c0_i32_57 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_56 : BitVec 32 := 4#32
  let v78 : BitVec 32 := Scalar.muli v9 c4_i32_56
  let v79 : BitVec 32 := Scalar.addi c0_i32_57 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v80 : BitVec 32 := Scalar.muli v5 c2_i32_58
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v82 : BitVec 32 := Scalar.muli v8 c1_i32_59
  let v83 : BitVec 32 := Scalar.addi v81 v82
  v83.toNat
def k0_dev6 (d0 : Dev nD) : Nat :=
  let c0_i32_74 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_73 : BitVec 32 := 4#32
  let v101 : BitVec 32 := Scalar.muli v9 c4_i32_73
  let v102 : BitVec 32 := Scalar.addi c0_i32_74 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v103 : BitVec 32 := Scalar.muli v5 c2_i32_75
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v105 : BitVec 32 := Scalar.muli v8 c1_i32_76
  let v106 : BitVec 32 := Scalar.addi v104 v105
  v106.toNat
def k0_dev7 (d0 : Dev nD) : Nat :=
  let c0_i32_91 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_90 : BitVec 32 := 4#32
  let v124 : BitVec 32 := Scalar.muli v9 c4_i32_90
  let v125 : BitVec 32 := Scalar.addi c0_i32_91 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v126 : BitVec 32 := Scalar.muli v5 c2_i32_92
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v128 : BitVec 32 := Scalar.muli v8 c1_i32_93
  let v129 : BitVec 32 := Scalar.addi v127 v128
  v129.toNat
def k0_off2 (d0 : Dev nD) (c0_i32_99 : BitVec 32) : Fin 3 → Nat :=
  let c0_100 : Index := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c512_i32_15 : BitVec 32 := 512#32
  let v26 : BitVec 32 := Scalar.muli v25 c512_i32_15
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c128_i32_98 : BitVec 32 := 128#32
  let v138 : BitVec 32 := Scalar.muli v23 c128_i32_98
  let v139 : BitVec 32 := Scalar.addi v26 v138
  let v140 : BitVec 32 := Scalar.addi v139 c0_i32_99
  let v141 : Index := Scalar.indexCast v140
  let c0_101 : Index := 0#32
  ![0, v141.toNat, 0]
def k0_dev8 (d0 : Dev nD) : Nat :=
  let c0_i32_109 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_108 : BitVec 32 := 4#32
  let v147 : BitVec 32 := Scalar.muli v9 c4_i32_108
  let v148 : BitVec 32 := Scalar.addi c0_i32_109 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v149 : BitVec 32 := Scalar.muli v5 c2_i32_110
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v151 : BitVec 32 := Scalar.muli v8 c1_i32_111
  let v152 : BitVec 32 := Scalar.addi v150 v151
  v152.toNat
def k0_dev9 (d0 : Dev nD) : Nat :=
  let c0_i32_126 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_125 : BitVec 32 := 4#32
  let v170 : BitVec 32 := Scalar.muli v9 c4_i32_125
  let v171 : BitVec 32 := Scalar.addi c0_i32_126 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v172 : BitVec 32 := Scalar.muli v5 c2_i32_127
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v174 : BitVec 32 := Scalar.muli v8 c1_i32_128
  let v175 : BitVec 32 := Scalar.addi v173 v174
  v175.toNat
def k0_dev10 (d0 : Dev nD) : Nat :=
  let c0_i32_143 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_142 : BitVec 32 := 4#32
  let v193 : BitVec 32 := Scalar.muli v9 c4_i32_142
  let v194 : BitVec 32 := Scalar.addi c0_i32_143 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v195 : BitVec 32 := Scalar.muli v5 c2_i32_144
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v197 : BitVec 32 := Scalar.muli v8 c1_i32_145
  let v198 : BitVec 32 := Scalar.addi v196 v197
  v198.toNat
def k0_dev11 (d0 : Dev nD) : Nat :=
  let c0_i32_160 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_159 : BitVec 32 := 4#32
  let v216 : BitVec 32 := Scalar.muli v9 c4_i32_159
  let v217 : BitVec 32 := Scalar.addi c0_i32_160 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v218 : BitVec 32 := Scalar.muli v5 c2_i32_161
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v220 : BitVec 32 := Scalar.muli v8 c1_i32_162
  let v221 : BitVec 32 := Scalar.addi v219 v220
  v221.toNat
def k0_off3 (d0 : Dev nD) (c0_i32_185 : BitVec 32) : Fin 3 → Nat :=
  let c0_186 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v24 : BitVec 32 := Scalar.muli v2 c512_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_181 : BitVec 32 := 128#32
  let v244 : BitVec 32 := Scalar.muli v13 c128_i32_181
  let v248 : BitVec 32 := Scalar.addi v24 v244
  let v249 : BitVec 32 := Scalar.addi v248 c0_i32_185
  let v250 : Index := Scalar.indexCast v249
  let c0_187 : Index := 0#32
  ![0, v250.toNat, 0]
def k0_off4 (d0 : Dev nD) (c0_i32_191 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_190 : BitVec 32 := 128#32
  let v268 : BitVec 32 := Scalar.muli v13 c128_i32_190
  let v269 : BitVec 32 := Scalar.addi v268 c0_i32_191
  let v270 : Index := Scalar.indexCast v269
  let c0_192 : Index := 0#32
  ![v270.toNat, 0]
def k0_dev12 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v276 : BitVec 32 := Scalar.muli v2 c4_i32_200
  let v277 : BitVec 32 := Scalar.addi c0_i32_201 v276
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_202 : BitVec 32 := 2#32
  let v278 : BitVec 32 := Scalar.muli v10 c2_i32_202
  let v279 : BitVec 32 := Scalar.addi v277 v278
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v280 : BitVec 32 := Scalar.muli v8 c1_i32_203
  let v281 : BitVec 32 := Scalar.addi v279 v280
  v281.toNat
def k0_dev13 (d0 : Dev nD) : Nat :=
  let c0_i32_213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_212 : BitVec 32 := 4#32
  let v290 : BitVec 32 := Scalar.muli v2 c4_i32_212
  let v291 : BitVec 32 := Scalar.addi c0_i32_213 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_214 : BitVec 32 := 2#32
  let v292 : BitVec 32 := Scalar.muli v5 c2_i32_214
  let v293 : BitVec 32 := Scalar.addi v291 v292
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_215 : BitVec 32 := 1#32
  let v294 : BitVec 32 := Scalar.muli v11 c1_i32_215
  let v295 : BitVec 32 := Scalar.addi v293 v294
  v295.toNat
def k0_dev14 (d0 : Dev nD) : Nat :=
  let c0_i32_253 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_252 : BitVec 32 := 4#32
  let v348 : BitVec 32 := Scalar.muli v2 c4_i32_252
  let v349 : BitVec 32 := Scalar.addi c0_i32_253 v348
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_254 : BitVec 32 := 2#32
  let v350 : BitVec 32 := Scalar.muli v10 c2_i32_254
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_255 : BitVec 32 := 1#32
  let v352 : BitVec 32 := Scalar.muli v8 c1_i32_255
  let v353 : BitVec 32 := Scalar.addi v351 v352
  v353.toNat
def k0_dev15 (d0 : Dev nD) : Nat :=
  let c0_i32_265 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_264 : BitVec 32 := 4#32
  let v362 : BitVec 32 := Scalar.muli v2 c4_i32_264
  let v363 : BitVec 32 := Scalar.addi c0_i32_265 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_266 : BitVec 32 := 2#32
  let v364 : BitVec 32 := Scalar.muli v5 c2_i32_266
  let v365 : BitVec 32 := Scalar.addi v363 v364
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_267 : BitVec 32 := 1#32
  let v366 : BitVec 32 := Scalar.muli v11 c1_i32_267
  let v367 : BitVec 32 := Scalar.addi v365 v366
  v367.toNat
def k0_dev16 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v420 : BitVec 32 := Scalar.muli v2 c4_i32_304
  let v421 : BitVec 32 := Scalar.addi c0_i32_305 v420
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_306 : BitVec 32 := 2#32
  let v422 : BitVec 32 := Scalar.muli v10 c2_i32_306
  let v423 : BitVec 32 := Scalar.addi v421 v422
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_307 : BitVec 32 := 1#32
  let v424 : BitVec 32 := Scalar.muli v8 c1_i32_307
  let v425 : BitVec 32 := Scalar.addi v423 v424
  v425.toNat
def k0_dev17 (d0 : Dev nD) : Nat :=
  let c0_i32_317 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_316 : BitVec 32 := 4#32
  let v434 : BitVec 32 := Scalar.muli v2 c4_i32_316
  let v435 : BitVec 32 := Scalar.addi c0_i32_317 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_318 : BitVec 32 := 2#32
  let v436 : BitVec 32 := Scalar.muli v5 c2_i32_318
  let v437 : BitVec 32 := Scalar.addi v435 v436
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_319 : BitVec 32 := 1#32
  let v438 : BitVec 32 := Scalar.muli v11 c1_i32_319
  let v439 : BitVec 32 := Scalar.addi v437 v438
  v439.toNat
def k0_dev18 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v492 : BitVec 32 := Scalar.muli v2 c4_i32_356
  let v493 : BitVec 32 := Scalar.addi c0_i32_357 v492
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_358 : BitVec 32 := 2#32
  let v494 : BitVec 32 := Scalar.muli v10 c2_i32_358
  let v495 : BitVec 32 := Scalar.addi v493 v494
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v496 : BitVec 32 := Scalar.muli v8 c1_i32_359
  let v497 : BitVec 32 := Scalar.addi v495 v496
  v497.toNat
def k0_dev19 (d0 : Dev nD) : Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_368 : BitVec 32 := 4#32
  let v506 : BitVec 32 := Scalar.muli v2 c4_i32_368
  let v507 : BitVec 32 := Scalar.addi c0_i32_369 v506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_370 : BitVec 32 := 2#32
  let v508 : BitVec 32 := Scalar.muli v5 c2_i32_370
  let v509 : BitVec 32 := Scalar.addi v507 v508
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_371 : BitVec 32 := 1#32
  let v510 : BitVec 32 := Scalar.muli v11 c1_i32_371
  let v511 : BitVec 32 := Scalar.addi v509 v510
  v511.toNat
def k0_off5 (d0 : Dev nD) (c0_i32_392 : BitVec 32) : Fin 3 → Nat :=
  let c0_393 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v24 : BitVec 32 := Scalar.muli v2 c512_i32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c128_i32_388 : BitVec 32 := 128#32
  let v532 : BitVec 32 := Scalar.muli v23 c128_i32_388
  let v536 : BitVec 32 := Scalar.addi v24 v532
  let v537 : BitVec 32 := Scalar.addi v536 c0_i32_392
  let v538 : Index := Scalar.indexCast v537
  let c0_394 : Index := 0#32
  ![0, v538.toNat, 0]
def k0_off6 (d0 : Dev nD) (c0_i32_399 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c128_i32_398 : BitVec 32 := 128#32
  let v556 : BitVec 32 := Scalar.muli v23 c128_i32_398
  let v557 : BitVec 32 := Scalar.addi v556 c0_i32_399
  let v558 : Index := Scalar.indexCast v557
  let c0_400 : Index := 0#32
  ![v558.toNat, 0]
def k0_off7 (d0 : Dev nD) (c0_i32_492 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c128_i32_491 : BitVec 32 := 128#32
  let v695 : BitVec 32 := Scalar.muli v16 c128_i32_491
  let v696 : BitVec 32 := Scalar.addi v695 c0_i32_492
  let v697 : Index := Scalar.indexCast v696
  let c0_493 : Index := 0#32
  ![v697.toNat, 0]
def k0_off8 (d0 : Dev nD) (c0_i32_564 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c128_i32_563 : BitVec 32 := 128#32
  let v771 : BitVec 32 := Scalar.muli v19 c128_i32_563
  let v772 : BitVec 32 := Scalar.addi v771 c0_i32_564
  let v773 : Index := Scalar.indexCast v772
  let c0_565 : Index := 0#32
  ![v773.toNat, 0]
abbrev stage0_0 : Fin 1 → Memref sig .tc .vmem S1x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S512, .bf16⟩
  | .hbm, ⟨2, _⟩ => ⟨S2x1024x512, .f32⟩
  | .hbm, ⟨3, _⟩ => ⟨S_, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x512, .f32⟩
  | .hbm, ⟨17, _⟩ => ⟨S1024x512, .f32⟩
  | .hbm, ⟨18, _⟩ => ⟨S512, .f32⟩
  | .hbm, ⟨19, _⟩ => ⟨S1x512, .f32⟩
  | .hbm, ⟨20, _⟩ => ⟨S1024x512, .f32⟩
  | .hbm, ⟨21, _⟩ => ⟨S1024x512, .f32⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Protocol.lean ====
/- The protocol of the kernel: three involutions of the eight devices, sixteen links per device (eight along the first
   axis, four along each of the other two), a cell at either end of a link and one barrier cell; what each cell is paid
   with, what a device owes, and the levels at which it may wait. Parametric in the slabs the links carry. -/
module

public import proofs.«01_k».proof.Proof.Gen.KernelIdeal.Launch
public import Idealize.ShloMosaic.Lib.Pipeline.RegionTalk
public import Idealize.ShloMosaic.Lib.Rounds
public import Idealize.ShloMosaic.Lib.Memref
public import Idealize.ShloMosaic.Lib.Tactic
public import Idealize.ShloMosaic.Lib.StableHlo.CollectiveRules
public import Idealize.ShloMosaic.Harness.Basic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-! ## Devices -/

set_option backward.proofsInPublic true in
/-- The partner along the first, the second and the third axis of the mesh. -/
def xp (c : Dev nD) : Dev nD := ⟨(c.val + 4) % 8, Nat.mod_lt _ (by decide)⟩
set_option backward.proofsInPublic true in
def yn (c : Dev nD) : Dev nD := ⟨(c.val + 2) % 4 + c.val / 4 * 4, by have := c.isLt; have : nD = 8 := rfl; omega⟩
set_option backward.proofsInPublic true in
def zn (c : Dev nD) : Dev nD := ⟨(c.val + 1) % 2 + c.val / 2 * 2, by have := c.isLt; have : nD = 8 := rfl; omega⟩

/-- The partner on link `l`: links 0–7 run along the first axis, 8–11 along the second, 12–15 along the third. -/
def peer (l : Fin 16) (c : Dev nD) : Dev nD := if l.val < 8 then xp c else if l.val < 12 then yn c else zn c
/-- The axis of a link. -/
def axis (l : Fin 16) : Fin 3 := if l.val < 8 then 0 else if l.val < 12 then 1 else 2
/-- The partner along an axis. -/
def nb (a : Fin 3) (c : Dev nD) : Dev nD := if a = 0 then xp c else if a = 1 then yn c else zn c

theorem nb_nb (a : Fin 3) (c : Dev nD) : nb a (nb a c) = c := by revert a c; decide
theorem peer_eq (l : Fin 16) (c : Dev nD) : peer l c = nb (axis l) c := by revert l c; decide
theorem peer_peer (l : Fin 16) (c : Dev nD) : peer l (peer l c) = c := by rw [peer_eq, peer_eq, nb_nb]

def nbEquiv (a : Fin 3) : Dev nD ≃ Dev nD := ⟨nb a, nb a, nb_nb a, nb_nb a⟩

/-- The link the `i`-th transfer of a device goes over: the eight along the first axis, then the other two in turn. -/
def ord (i : Fin 16) : Fin 16 :=
  if i.val < 8 then i else if h : i.val % 2 = 0 then ⟨8 + (i.val - 8) / 2, by omega⟩ else ⟨12 + (i.val - 8) / 2, by omega⟩
set_option backward.proofsInPublic true in
def dro (l : Fin 16) : Fin 16 :=
  if l.val < 8 then l else if h : l.val < 12 then ⟨8 + 2 * (l.val - 8), by omega⟩ else ⟨9 + 2 * (l.val - 12), by omega⟩
theorem dro_ord (i : Fin 16) : dro (ord i) = i := by revert i; decide
theorem ord_dro (i : Fin 16) : ord (dro i) = i := by revert i; decide
def ordEquiv : Fin 16 ≃ Fin 16 := ⟨ord, dro, dro_ord, ord_dro⟩

/-! ## Buffers and semaphores -/

abbrev pM : Memref sig .tc .vmem S1x1024x512 .bf16 := Memref.whole cc0_stg0_0
abbrev gM : Memref sig .tc .vmem S1x512 .bf16 := Memref.whole cc0_stg1_0
abbrev oM : Memref sig .tc .vmem S512x512 .f32 := Memref.whole cc0_stg2_0
abbrev sxM : Memref sig .tc .vmem S8x32x512 .bf16 := Memref.whole cc0_scratch0
abbrev rxM : Memref sig .tc .vmem S8x32x512 .bf16 := Memref.whole cc0_scratch1
abbrev oqM : Memref sig .tc .vmem S4x32x512 .bf16 := Memref.whole cc0_scratch2
abbrev ryM : Memref sig .tc .vmem S4x32x512 .bf16 := Memref.whole cc0_scratch3
abbrev rzM : Memref sig .tc .vmem S4x32x512 .bf16 := Memref.whole cc0_scratch4

theorem inb8 {k : ℕ} (h : k < 8) : ∀ a, (![k, 0, 0] : Fin 3 → ℕ) a + S1x32x512.size a ≤ S8x32x512.size a := fun a => by
  fin_cases a
  · show k + 1 ≤ 8; omega
  · show 0 + 32 ≤ 32; omega
  · show 0 + 512 ≤ 512; omega
theorem inb4 {k : ℕ} (h : k < 4) : ∀ a, (![k, 0, 0] : Fin 3 → ℕ) a + S1x32x512.size a ≤ S4x32x512.size a := fun a => by
  fin_cases a
  · show k + 1 ≤ 4; omega
  · show 0 + 32 ≤ 32; omega
  · show 0 + 512 ≤ 512; omega

/-- Slab `k` of a buffer of eight (of four). -/
abbrev rect8 (k : ℕ) (h : k < 8) : Rect S8x32x512 := Rect.unit (s := S8x32x512) ![k, 0, 0] S1x32x512.size (inb8 h)
abbrev rect4 (k : ℕ) (h : k < 4) : Rect S4x32x512 := Rect.unit (s := S4x32x512) ![k, 0, 0] S1x32x512.size (inb4 h)
abbrev slab8 (b : Memref sig .tc .vmem S8x32x512 .bf16) (k : ℕ) (h : k < 8) : Memref sig .tc .vmem S1x32x512 .bf16 :=
  b.slice (rect8 k h) (fun _ => rfl)
abbrev slab4 (b : Memref sig .tc .vmem S4x32x512 .bf16) (k : ℕ) (h : k < 4) : Memref sig .tc .vmem S1x32x512 .bf16 :=
  b.slice (rect4 k h) (fun _ => rfl)

set_option backward.proofsInPublic true in
/-- The slab a link sends from, and the slab of the partner's buffer it lands in. -/
def srcB (l : Fin 16) : Memref sig .tc .vmem S1x32x512 .bf16 :=
  if h : l.val < 8 then slab8 sxM l.val h else if h' : l.val < 12 then slab4 oqM (l.val - 8) (by omega) else slab4 oqM (l.val - 12) (by omega)
set_option backward.proofsInPublic true in
def dstB (l : Fin 16) : Memref sig .tc .vmem S1x32x512 .bf16 :=
  if h : l.val < 8 then slab8 rxM l.val h else if h' : l.val < 12 then slab4 ryM (l.val - 8) (by omega) else slab4 rzM (l.val - 12) (by omega)
/-- The share of the source a link's transfer reads at: the slabs of the two later axes are read by two transfers at once. -/
def shr (l : Fin 16) : PosShare TreeShare := if l.val < 8 then fullShare else if l.val < 12 then fullShare.left else fullShare.right

/-- A slab without its leading axis of one: how a transfer names it. -/
abbrev flat (m : Memref sig .tc .vmem S1x32x512 .bf16) : Memref sig .tc .vmem S32x512 .bf16 := m.squeeze S32x512 squeezes_S1x32x512_S32x512

set_option backward.proofsInPublic true in
/-- The semaphores of a link: the issuer's, the receiver's. -/
def ssem (l : Fin 16) : DmaSem sig := ⟨if l.val < 8 then 3 + l.val else if l.val < 12 then 11 + l.val else 15 + l.val, by
  show _ < 35; have := l.isLt; split_ifs <;> omega⟩
set_option backward.proofsInPublic true in
def rsem (l : Fin 16) : DmaSem sig := ⟨if l.val < 8 then 11 + l.val else if l.val < 12 then 15 + l.val else 19 + l.val, by
  show _ < 35; have := l.isLt; split_ifs <;> omega⟩

/-- The link a DMA semaphore is the issuer's (the receiver's) semaphore of. -/
def sLink (q : DmaSem sig) : Option (Fin 16) := (List.finRange 16).find? fun l => ssem l = q
def rLink (q : DmaSem sig) : Option (Fin 16) := (List.finRange 16).find? fun l => rsem l = q
theorem sLink_ssem (l : Fin 16) : sLink (ssem l) = some l := by revert l; decide
theorem rLink_rsem (l : Fin 16) : rLink (rsem l) = some l := by revert l; decide
theorem sLink_rsem (l : Fin 16) : sLink (rsem l) = none := by revert l; decide
theorem rLink_ssem (l : Fin 16) : rLink (ssem l) = none := by revert l; decide

abbrev barS : Sem sig := sig.barrier 0 rfl
abbrev barCell (c : Dev nD) : GSem nD τ sig := ((c : Thread nD τ), .reg barS)
abbrev sCell (c : Dev nD) (l : Fin 16) : GSem nD τ sig := ((c : Thread nD τ), .dma (ssem l))
abbrev rCell (c : Dev nD) (l : Fin 16) : GSem nD τ sig := ((c : Thread nD τ), .dma (rsem l))
/-- The kernel's own semaphores: the issuers', the receivers'. -/
def osem (p : Fin 2 × Fin 16) : SemLoc sig := if p.1 = 0 then .dma (ssem p.2) else .dma (rsem p.2)

/-- What a slab's transfer credits. -/
@[irreducible] def N : ℕ := (flat (slab8 rxM 0 (by decide))).view.dmaCredit
theorem N_pos : 0 < N := by unfold N; exact View.dmaCredit_pos _ (by decide)
theorem credit_dst (l : Fin 16) : (flat (dstB l)).view.dmaCredit = N := by
  unfold dstB N; split_ifs <;> rfl
theorem credit_src (l : Fin 16) : (flat (srcB l)).view.dmaCredit = N := by
  unfold srcB N; split_ifs <;> rfl

/-! ## The resource algebra -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The schedule -/

/-- Device `c` owns slab `m` outright at some contents. -/
def slot (c : Dev nD) (m : Memref sig .tc .vmem S1x32x512 .bf16) : sProp 𝕄 :=
  iprop(∃ X, ownsTc (Ix := Unit) (Name := ℕ) (U := UU) (Lvl := ℕ) c m fullShare X)
/-- The place a link into device `c` lands in, and that its receive cell is open. -/
def landing (c : Dev nD) (l : Fin 16) : sProp 𝕄 := iprop(slot c (dstB l) ∗ reached ER (rCell c l) 0)
/-- What device `c`'s barrier cell is paid with by its partner along axis `a`: the places the links of that axis land in. -/
def barPay (c : Dev nD) (a : Fin 3) : sProp 𝕄 := bigSep (Finset.univ.filter fun l => axis l = a) fun l => landing (nb a c) l

instance slot_storable (c : Dev nD) (m) : BI.Storable (upEmb : UEmb _ 𝕄) (slot (F := F) c m) := by unfold slot; infer_instance
instance landing_storable (c : Dev nD) (l) : BI.Storable (upEmb : UEmb _ 𝕄) (landing (F := F) c l) := by unfold landing; infer_instance
instance barPay_storable (c : Dev nD) (a) : BI.Storable (upEmb : UEmb _ 𝕄) (barPay (F := F) c a) := by unfold barPay; infer_instance

variable (D : Dev nD → Fin 16 → (S1x32x512.Idx → Elt F .bf16))

/-- The slab a link into `c` has landed; the slab a link out of `c` was issued from. -/
def recvd (c : Dev nD) (l : Fin 16) : sProp 𝕄 := ownsTc (Ix := Unit) (Name := ℕ) (U := UU) (Lvl := ℕ) c (dstB l) fullShare (D (peer l c) l)
def sent (c : Dev nD) (l : Fin 16) : sProp 𝕄 := ownsTc (Ix := Unit) (Name := ℕ) (U := UU) (Lvl := ℕ) c (srcB l) (shr l) (D c l)
instance recvd_storable (c : Dev nD) (l) : BI.Storable (upEmb : UEmb _ 𝕄) (recvd (F := F) D c l) := by unfold recvd; infer_instance
instance sent_storable (c : Dev nD) (l) : BI.Storable (upEmb : UEmb _ 𝕄) (sent (F := F) D c l) := by unfold sent; infer_instance

/-- What a DMA cell of device `c` is paid with. -/
def dmaPay (c : Dev nD) (q : DmaSem sig) : sProp 𝕄 :=
  match sLink q with
  | some l => sent D c l
  | none => match rLink q with
    | some l => recvd D c l
    | none => iprop(emp)
instance dmaPay_storable (c : Dev nD) (q) : BI.Storable (upEmb : UEmb _ 𝕄) (dmaPay (F := F) D c q) := by
  unfold dmaPay; (repeat' split) <;> infer_instance

/-- What a cell of device `c` is paid with for duty `d`. -/
def pay (c : Dev nD) (s : SemLoc sig) (d : Fin 3) : sProp 𝕄 :=
  match s with
  | .reg _ => barPay c d
  | .dma q => dmaPay D c q
instance pay_storable (c : Dev nD) (s) (d) : BI.Storable (upEmb : UEmb _ 𝕄) (pay (F := F) D c s d) := by
  unfold pay; split <;> infer_instance

/-- One round per cell: three duties of a unit on a barrier cell, one of a slab's credit on a cell of a link. -/
def duts (s : SemLoc sig) : Finset (Fin 3) := match s with | .reg _ => Finset.univ | .dma _ => {0}
def amt (s : SemLoc sig) : ℕ := match s with | .reg _ => 1 | .dma _ => N

def sched : Rounds.Schedule (GSem nD τ sig) (Fin 3) 𝕄 where
  duties g r := if r = 0 then duts g.2 else ∅
  unitless _ := False
  amount g _ _ := amt g.2
  payload g _ d := pay D g.1.1 g.2 d
  amount_pos g _ _ _ := by unfold amt; split; exacts [Nat.one_pos, N_pos]

instance sched_storable (g : GSem nD τ sig) (r : ℕ) (d : Fin 3) : BI.Storable (upEmb : UEmb _ 𝕄) ((sched (F := F) D).payload g r d) :=
  pay_storable D _ _ _

section Sched

variable (c : Dev nD) (l : Fin 16)

theorem duties_bar : (sched (F := F) D).duties (barCell c) 0 = Finset.univ := rfl
theorem duties_dma (q : DmaSem sig) : (sched (F := F) D).duties ((c : Thread nD τ), .dma q) 0 = {0} := rfl
theorem duties_later (g : GSem nD τ sig) (r : ℕ) (h : 1 ≤ r) : (sched (F := F) D).duties g r = ∅ := if_neg (by omega)
theorem expect_bar : (sched (F := F) D).expect (barCell c) 0 = 3 := rfl
theorem expect_dma (q : DmaSem sig) : (sched (F := F) D).expect ((c : Thread nD τ), .dma q) 0 = N := Finset.sum_singleton _ _
theorem mem_dma (q : DmaSem sig) : (0 : Fin 3) ∈ (sched (F := F) D).duties ((c : Thread nD τ), .dma q) 0 := by
  rw [duties_dma]; exact Finset.mem_singleton_self _
theorem amount_dma (q : DmaSem sig) : (sched (F := F) D).amount ((c : Thread nD τ), .dma q) 0 0 = N := rfl
theorem payload_s : (sched (F := F) D).payload (sCell c l) 0 0 = sent D c l := by
  show dmaPay D c (ssem l) = _; unfold dmaPay; rw [sLink_ssem]
theorem payload_r : (sched (F := F) D).payload (rCell c l) 0 0 = recvd D c l := by
  show dmaPay D c (rsem l) = _; unfold dmaPay; rw [sLink_rsem, rLink_rsem]
theorem rest_s : bigSep ((sched (F := F) D).duties (sCell c l) 0 \ ∅) (fun d => (sched (F := F) D).payload (sCell c l) 0 d) = sent D c l := by
  rw [Finset.sdiff_empty, duties_dma, bigSep_singleton, payload_s]
theorem rest_r : bigSep ((sched (F := F) D).duties (rCell c l) 0 \ ∅) (fun d => (sched (F := F) D).payload (rCell c l) 0 d) = recvd D c l := by
  rw [Finset.sdiff_empty, duties_dma, bigSep_singleton, payload_r]
/-- The three payments of a barrier cell together: every place device `c`'s links land in. -/
theorem rest_bar : bigSep ((sched (F := F) D).duties (barCell c) 0 \ ∅) (fun d => (sched (F := F) D).payload (barCell c) 0 d)
    = bigSep Finset.univ fun l : Fin 16 => landing (F := F) (peer l c) l := by
  have hfib := bigSep_fiberwise (Finset.univ : Finset (Fin 16)) axis fun l => landing (F := F) (peer l c) l
  rw [show (Finset.univ : Finset (Fin 16)).image axis = Finset.univ by decide] at hfib
  rw [Finset.sdiff_empty, duties_bar, hfib]
  exact BI.bigSep_congr fun a _ => (show barPay (F := F) c a = _ from by
    unfold barPay; exact BI.bigSep_congr fun l hl => by rw [peer_eq, (Finset.mem_filter.mp hl).2])

end Sched

/-! ## What a device owes; the levels -/

/-- The cells a device owes to, in the order it pays them: the partners' barrier cells, then its links' receive cells. -/
def tgt (c : Dev nD) (n : ℕ) : GSem nD τ sig :=
  if h : n < 3 then barCell (nb ⟨n, h⟩ c) else
    if h' : n < 19 then rCell (peer (ord ⟨n - 3, by omega⟩) c) (ord ⟨n - 3, by omega⟩) else barCell c
/-- What is owed once `n` have been paid. -/
def owed (c : Dev nD) (n : ℕ) : CellTallies nD τ sig Unit := ∑ i ∈ Finset.Ico n 19, tallyAt (tgt c i) () (amt (tgt c i).2)

theorem owed_step (c : Dev nD) {n : ℕ} (h : n < 19) : owed c n = owed c (n + 1) + tallyAt (tgt c n) () (amt (tgt c n).2) := by
  unfold owed
  rw [show Finset.Ico n 19 = insert n (Finset.Ico (n + 1) 19) by ext i; simp only [Finset.mem_Ico, Finset.mem_insert]; omega,
    Finset.sum_insert (fun hm => absurd (Finset.mem_Ico.mp hm).1 (by omega)), add_comm]
theorem owed_end (c : Dev nD) : owed c 19 = 0 := by unfold owed; rw [Finset.Ico_self, Finset.sum_empty]

def L (g : GSem nD τ sig) : Finset Unit := if g.1.2 = .tc then {()} else ∅
/-- Staging and issuers' cells at 0, barrier cells at 1, the first axis' receive cells at 2, the others' at 3. -/
def lvs (s : SemLoc sig) : ℕ := match s with
  | .reg _ => 1
  | .dma q => match rLink q with | some l => if l.val < 8 then 2 else 3 | none => 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {n : ℕ} {g : GSem nD τ sig} {u : Unit} (h : 0 < owed c n g u) : ∃ i, n ≤ i ∧ i < 19 ∧ g = tgt c i := by
  obtain ⟨i, hi, hp⟩ := Pipeline.sum_pos_exists h
  exact ⟨i, (Finset.mem_Ico.mp hi).1, (Finset.mem_Ico.mp hi).2, (Pipeline.tallyAt_pos hp).1⟩

theorem tgt_tc (c : Dev nD) (n : ℕ) : ∃ d : Dev nD, (tgt c n).1 = (d : Thread nD τ) := by
  unfold tgt; split_ifs <;> exact ⟨_, rfl⟩
theorem L_tgt (c : Dev nD) (n : ℕ) : L (tgt c n) = {()} := by
  obtain ⟨d, hd⟩ := tgt_tc c n; unfold L; rw [hd]; rfl

/-- The level of what is still owed after `n` payments is at least this. -/
def floor (n : ℕ) : ℕ := if n < 3 then 1 else if n < 11 then 2 else 3
theorem floor_le (c : Dev nD) {n i : ℕ} (h : n ≤ i) (hi : i < 19) : floor n ≤ lv (tgt c i) () := by
  have hmono : floor n ≤ floor i := by unfold floor; split_ifs <;> omega
  refine hmono.trans ?_
  unfold tgt
  by_cases h3 : i < 3
  · rw [dif_pos h3]; show floor i ≤ 1; unfold floor; rw [if_pos h3]
  · rw [dif_neg h3, dif_pos hi]
    show floor i ≤ lvs (.dma (rsem (ord _)))
    unfold lvs; dsimp only; rw [rLink_rsem]; show floor i ≤ if (ord _).val < 8 then 2 else 3
    unfold floor; rw [if_neg h3]
    by_cases h11 : i < 11
    · have : (ord ⟨i - 3, by omega⟩).val < 8 := by
        unfold ord; rw [if_pos (by show i - 3 < 8; omega)]; show i - 3 < 8; omega
      rw [if_pos h11, if_pos this]
    · rw [if_neg h11]
      have : ¬ (ord ⟨i - 3, by omega⟩).val < 8 := by
        unfold ord; rw [if_neg (by show ¬ i - 3 < 8; omega)]; split_ifs <;> (show ¬ (_ + _ < 8); omega)
      rw [if_neg this]

/-- A device that has paid `n` may wait on a cell of its own below what it still owes. -/
theorem mayWait_owed (c : Dev nD) (sm : SemLoc sig) (n : ℕ) (h : lvs sm < floor n) :
    (levAts L lv : sProp 𝕄) ⊢ MayWait (c : Thread nD τ) sm () (owed c n) :=
  MayOwe.of_cut (L := L) (lev := lv) (lvs sm) (fun p hp => by rw [Finset.mem_singleton.mp hp, L_tc]; exact Finset.mem_singleton_self _)
    (fun g u hg => by obtain ⟨i, -, -, rfl⟩ := owed_pos hg; rw [L_tgt]; exact Finset.mem_singleton_self _)
    (fun p hp => by rw [Finset.mem_singleton.mp hp]; exact le_refl _)
    (fun g u hg => by obtain ⟨i, h1, h2, rfl⟩ := owed_pos hg; exact lt_of_lt_of_le h (floor_le c h1 h2))

/-! ## Families dealt with in order -/

section Families

variable {n : ℕ}

/-- The members of a family from the `k`-th on; those before the `k`-th. -/
def rest (A : Fin n → sProp 𝕄) (k : ℕ) : sProp 𝕄 := bigSep (Finset.univ.filter fun i : Fin n => k ≤ i.val) A
def done (A : Fin n → sProp 𝕄) (k : ℕ) : sProp 𝕄 := bigSep (Finset.univ.filter fun i : Fin n => i.val < k) A

theorem rest_zero (A : Fin n → sProp 𝕄) : rest A 0 = bigSep Finset.univ A := by
  unfold rest; rw [Finset.filter_true_of_mem fun _ _ => Nat.zero_le _]
theorem done_zero (A : Fin n → sProp 𝕄) : done A 0 = iprop(emp) := by
  unfold done; rw [Finset.filter_false_of_mem fun _ _ => Nat.not_lt_zero _, BI.bigSep_empty]; rfl
theorem done_all (A : Fin n → sProp 𝕄) : done A n = bigSep Finset.univ A := by
  unfold done; rw [Finset.filter_true_of_mem fun i _ => i.isLt]
theorem rest_step (A : Fin n → sProp 𝕄) (k : ℕ) (h : k < n) : rest A k = iprop(A ⟨k, h⟩ ∗ rest A (k + 1)) := by
  unfold rest
  rw [show (Finset.univ.filter fun i : Fin n => k ≤ i.val) = insert ⟨k, h⟩ (Finset.univ.filter fun i : Fin n => k + 1 ≤ i.val) by
    ext i; simp only [Finset.mem_filter, Finset.mem_insert, Finset.mem_univ, true_and, Fin.ext_iff]; omega,
    BI.bigSep_insert (by simp)]; rfl
theorem done_step (A : Fin n → sProp 𝕄) (k : ℕ) (h : k < n) : done A (k + 1) = iprop(A ⟨k, h⟩ ∗ done A k) := by
  unfold done
  rw [show (Finset.univ.filter fun i : Fin n => i.val < k + 1) = insert ⟨k, h⟩ (Finset.univ.filter fun i : Fin n => i.val < k) by
    ext i; simp only [Finset.mem_filter, Finset.mem_insert, Finset.mem_univ, true_and, Fin.ext_iff]; omega,
    BI.bigSep_insert (by simp)]; rfl

end Families

end Cert.KernelIdeal.Run

end
-- ==== Proof.Values.lean ====
/- What the kernel computes on each device, from the staged blocks of all of them: the slabs its links carry and the
   blocks of rows of its result, in the arithmetic of any float family. -/
module

public import proofs.«01_k».proof.Proof.Protocol
public import Idealize.ShloMosaic.Lib.ViewIndex
public import proofs.«01_k».proof.Proof.Gen.KernelIdeal.Points
public import proofs.«01_k».proof.Proof.Gen.KernelIdeal.Skeleton

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Blocks of 32 rows -/

/-- A device's own quarter of the result's rows; the quarter of its partner along both later axes is the mirror of it. -/
abbrev own (c : Dev nD) : ℕ := c.val % 4
set_option backward.proofsInPublic true in
/-- The block of the result's rows link `l` of device `c` fills. -/
def blk (c : Dev nD) (l : Fin 16) : Fin 16 :=
  ⟨((if l.val < 4 then own c else if l.val < 8 then 3 - own c else if l.val < 12 then own (yn c) else own (zn c)) * 4 + l.val % 4) % 16,
    Nat.mod_lt _ (by decide)⟩
/-- The link of device `c` that fills block `b`. -/
def lnk (c : Dev nD) (b : Fin 16) : Fin 16 := ((List.finRange 16).find? fun l => blk c l = b).getD 0
theorem blk_lnk (c : Dev nD) (b : Fin 16) : blk c (lnk c b) = b := by revert c b; decide
theorem lnk_blk (c : Dev nD) (l : Fin 16) : lnk c (blk c l) = l := by revert c l; decide
theorem blk_ne (c : Dev nD) {l l' : Fin 16} (h : l ≠ l') : blk c l ≠ blk c l' := fun e => h (by rw [← lnk_blk c l, e, lnk_blk])

set_option backward.proofsInPublic true in
/-- The block of the partial sums' rows a device keeps for link `l`, and the one it sends over it. -/
def kblk (c : Dev nD) (l : Fin 16) : Fin 32 := ⟨(16 * (c.val / 4) + (blk c l).val) % 32, Nat.mod_lt _ (by decide)⟩
set_option backward.proofsInPublic true in
def sblk (c : Dev nD) (l : Fin 16) : Fin 32 := ⟨(16 * (1 - c.val / 4) + (blk c l).val) % 32, Nat.mod_lt _ (by decide)⟩
theorem sblk_xp (c : Dev nD) (l : Fin 16) (h : l.val < 8) : sblk (xp c) l = kblk c l := by revert c l; decide

theorem inbp (b : Fin 32) : ∀ a, (![0, 32 * b.val, 0] : Fin 3 → ℕ) a + S1x32x512.size a ≤ S1x1024x512.size a := fun a => by
  fin_cases a
  · show 0 + 1 ≤ 1; omega
  · show 32 * b.val + 32 ≤ 1024; omega
  · show 0 + 512 ≤ 512; omega
theorem inbo (b : Fin 16) : ∀ a, (![32 * b.val, 0] : Fin 2 → ℕ) a + S32x512.size a ≤ S512x512.size a := fun a => by
  fin_cases a
  · show 32 * b.val + 32 ≤ 512; omega
  · show 0 + 512 ≤ 512; omega

abbrev prect (b : Fin 32) : Rect S1x1024x512 := Rect.unit (s := S1x1024x512) ![0, 32 * b.val, 0] S1x32x512.size (inbp b)
abbrev orect (b : Fin 16) : Rect S512x512 := Rect.unit (s := S512x512) ![32 * b.val, 0] S32x512.size (inbo b)
abbrev grect : Rect S1x512 := Rect.unit (s := S1x512) ![0, 0] S1x512.size inb_S1x512_S1x512_0_0

theorem off1_row : ∀ (c : Dev nD) (r : Fin 4), k0_off1 c (BitVec.ofNat 32 (32 * r.val)) = ![0, 32 * (sblk c ⟨r.val, by omega⟩).val, 0] := by decide +kernel
theorem off2_row : ∀ (c : Dev nD) (r : Fin 4), k0_off2 c (BitVec.ofNat 32 (32 * r.val)) = ![0, 32 * (sblk c ⟨4 + r.val, by omega⟩).val, 0] := by decide +kernel
theorem off3_row : ∀ (c : Dev nD) (r : Fin 4), k0_off3 c (BitVec.ofNat 32 (32 * r.val)) = ![0, 32 * (kblk c ⟨r.val, by omega⟩).val, 0] := by decide +kernel
theorem off5_row : ∀ (c : Dev nD) (r : Fin 4), k0_off5 c (BitVec.ofNat 32 (32 * r.val)) = ![0, 32 * (kblk c ⟨4 + r.val, by omega⟩).val, 0] := by decide +kernel
theorem off4_row : ∀ (c : Dev nD) (r : Fin 4), k0_off4 c (BitVec.ofNat 32 (32 * r.val)) = ![32 * (blk c ⟨r.val, by omega⟩).val, 0] := by decide +kernel
theorem off6_row : ∀ (c : Dev nD) (r : Fin 4), k0_off6 c (BitVec.ofNat 32 (32 * r.val)) = ![32 * (blk c ⟨4 + r.val, by omega⟩).val, 0] := by decide +kernel
theorem off7_row : ∀ (c : Dev nD) (r : Fin 4), k0_off7 c (BitVec.ofNat 32 (32 * r.val)) = ![32 * (blk c ⟨8 + r.val, by omega⟩).val, 0] := by decide +kernel
theorem off8_row : ∀ (c : Dev nD) (r : Fin 4), k0_off8 c (BitVec.ofNat 32 (32 * r.val)) = ![32 * (blk c ⟨12 + r.val, by omega⟩).val, 0] := by decide +kernel

/-! ## Slabs and results -/

/-- The 32 rows of block `b` of staged partial sums; the staged scale as the body reads it. -/
def psl (X : S1x1024x512.Idx → Elt F .bf16) (b : Fin 32) : S1x32x512.Idx → Elt F .bf16 := (pM.access (prect b)).read (Elt F) X
def grow (X : S1x512.Idx → Elt F .bf16) : S1x512.Idx → Elt F .bf16 := (gM.access grect).read (Elt F) X

variable (X : Dev nD → S1x1024x512.Idx → Elt F .bf16) (G : Dev nD → S1x512.Idx → Elt F .bf16)

/-- The slab sent along the first axis: the partner's rows of the device's partial sums. -/
def xslab (c : Dev nD) (l : Fin 16) : S1x32x512.Idx → Elt F .bf16 := k0_pay1 (psl (X c) (sblk c l))
/-- The rows a device finishes: from its own partial sums and its partner's, normalised; in full, and as sent on. -/
def nslab (c : Dev nD) (l : Fin 16) : S32x512.Idx → Elt F .f32 := k0_pay13 (k0_pay9 (grow (G c))) (xslab X (xp c) l) (psl (X c) (kblk c l))
def qslab (c : Dev nD) (l : Fin 16) : S1x32x512.Idx → Elt F .bf16 := k0_pay14 (k0_pay9 (grow (G c))) (xslab X (xp c) l) (psl (X c) (kblk c l))

set_option backward.proofsInPublic true in
/-- The slab link `l` carries out of device `c`. -/
def carried (c : Dev nD) (l : Fin 16) : S1x32x512.Idx → Elt F .bf16 :=
  if l.val < 8 then xslab X c l else qslab X G c ⟨l.val % 4, by omega⟩

/-- The block of rows device `c` writes for link `l`. -/
def oval (c : Dev nD) (l : Fin 16) : S32x512.Idx → Elt F .f32 :=
  if l.val < 8 then nslab X G c l else k0_pay29 (carried X G (peer l c) l)

set_option backward.proofsInPublic true in
/-- Device `c`'s whole result. -/
def outAt (c : Dev nD) : S512x512.Idx → Elt F .f32 := fun i =>
  oval X G c (lnk c ⟨(i 0).val / 32, by have : (i 0).val < 512 := (i 0).isLt; omega⟩)
    (fun a => match a with | ⟨0, _⟩ => ⟨(i 0).val % 32, Nat.mod_lt _ (by decide)⟩ | ⟨1, _⟩ => i 1)

/-- Contents of the result's buffer that hold the first `k` blocks written. -/
def Filled (c : Dev nD) (k : ℕ) (f : S512x512.Idx → Elt F .f32) : Prop :=
  ∀ l : Fin 16, l.val < k → (oM.access (orect (blk c l))).read (Elt F) f = oval X G c l

theorem filled_zero (c : Dev nD) (f) : Filled X G c 0 f := fun _ h => absurd h (Nat.not_lt_zero _)

theorem filled_step (c : Dev nD) {k : ℕ} (hk : k < 16) {f} (h : Filled X G c k f) :
    Filled X G c (k + 1) ((oM.access (orect (blk c ⟨k, hk⟩))).write (Elt F) f (oval X G c ⟨k, hk⟩) Finset.univ) := fun l hl => by
  by_cases he : l = ⟨k, hk⟩
  · subst he; exact View.read_write_univ ..
  · have hlk : l.val < k := by have : l.val ≠ k := fun e => he (Fin.ext e); omega
    rw [← h l hlk]
    refine View.read_slice_write_slice_of_disjoint _ _ _ _ _ (View.disjoint_slice ?_)
    refine Rect.unit_disjoint (0 : Fin 2) ?_
    have : (blk c l).val ≠ (blk c ⟨k, hk⟩).val := fun e => blk_ne c he (Fin.ext e)
    show 32 * (blk c l).val + 32 ≤ 32 * (blk c ⟨k, hk⟩).val ∨ 32 * (blk c ⟨k, hk⟩).val + 32 ≤ 32 * (blk c l).val
    omega

theorem filled_all (c : Dev nD) {f} (h : Filled X G c 16 f) : f = outAt X G c := funext fun i => by
  have hi : (i 0).val < 512 := (i 0).isLt
  have hb := h (lnk c ⟨(i 0).val / 32, by omega⟩) (Fin.isLt _)
  rw [blk_lnk] at hb
  unfold outAt
  rw [← hb, View.read_apply]
  refine congrArg f (funext fun a => Fin.ext ?_)
  fin_cases a
  · show (i 0).val = 32 * ((i 0).val / 32) + 1 * ((i 0).val % 32); omega
  · show (i 1).val = 0 + 1 * (i 1).val; omega

end Cert.KernelIdeal.Run

end
-- ==== Proof.Steps.lean ====
/- The steps of the kernel's body, one lemma per kind of step: loads and stores through a slab, filling a slab for the first
   axis, a transfer, a wait for one landing or for one of its own, finishing a block of rows, and passing it on. Each counts
   the families of what a device still holds and of what it has already taken. -/
module

public import proofs.«01_k».proof.Proof.Values
public import Idealize.ShloMosaic.Rules.Step

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

attribute [local irreducible] srcB dstB

abbrev 𝒱₀ : Variants := Variants.none

/-- The weakest precondition of a device's body. -/
abbrev wpb {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

abbrev owns' (c : Dev nD) {s : Shape} {e : EltTy} (m : Memref sig .tc .vmem s e) (q : PosShare TreeShare) (Y : s.Idx → Elt F e) : sProp 𝕄 :=
  ownsTc (Ix := Unit) (Name := ℕ) (U := UU) (Lvl := ℕ) c m q Y

variable {α : Type} {Q : α → sProp (MT nD τ sig Unit (Elt F) ℕ UU ℕ)}

/-! ## Loads and stores of what a device owns -/

/-- A load through a rectangle of a memref reads what is owned of that rectangle. -/
theorem load_slice (c : Dev nD) {s : Shape} {e : EltTy} (m : Memref sig .tc .vmem s e) (r : Rect s) (hr : ∀ a, r.stride a = 1) (q : PosShare TreeShare)
    (Y : r.shape.Idx → Elt F e) {hl : m.view.LoadsAt r.toLoadRect} {k : (r.shape.Idx → Elt F e) → Prog (TpuEff nD τ sig (Elt F) Λ₀ .tc) α} :
    owns' c (m.slice r hr) q Y ⊢ iprop((owns' c (m.slice r hr) q Y -∗ wpb c (k Y) Q) -∗ wpb c (.op (.load m r.toLoadRect hl) k) Q) := by
  unfold owns' ownsTc owns
  iintro ⟨%f, %hf, H⟩ Hk
  iapply (wp_load_rect 𝒱₀ (c : Thread nD τ) none Set.univ (m := m) (r := r) (S := (m.slice r hr).view.set) (q := q) (f := f) (Finset.Subset.refl _)) $$ H
  iintro H
  rw [show (m.access r).read (Elt F) f = Y from hf]
  iapply Hk; iexists f; isplitr; · (ipureintro; exact hf)
  iexact H

/-- A load through a rectangle of a whole memref reads the rectangle of what is owned. -/
theorem load_whole (c : Dev nD) {s : Shape} {e : EltTy} (m : Memref sig .tc .vmem s e) (r : Rect s) (q : PosShare TreeShare)
    (f : m.view.ty.Contents (Elt F)) {hl : m.view.LoadsAt r.toLoadRect} {k : (r.shape.Idx → Elt F e) → Prog (TpuEff nD τ sig (Elt F) Λ₀ .tc) α} :
    (m.view.loc (c : Thread nD τ) ↦[m.view.set]{q} f : sProp 𝕄)
      ⊢ iprop(((m.view.loc (c : Thread nD τ) ↦[m.view.set]{q} f) -∗ wpb c (k ((m.access r).read (Elt F) f)) Q) -∗ wpb c (.op (.load m r.toLoadRect hl) k) Q) :=
  wp_load_rect 𝒱₀ (c : Thread nD τ) none Set.univ (m := m) (r := r) (S := m.view.set) (q := q) (f := f) (View.set_slice_subset _ _)

/-- A store over a rectangle of a memref that is owned at some contents leaves it owned at what was stored. -/
theorem store_slice (c : Dev nD) {s : Shape} {e : EltTy} (m : Memref sig .tc .vmem s e) (r : Rect s) (hr : ∀ a, r.stride a = 1)
    (w : r.shape.Idx → Elt F e) {hx : (m.access r).Stores Finset.univ} {hm : Finset.univ = Finset.univ ∨ ∀ a, r.stride a = 1}
    {k : PUnit → Prog (TpuEff nD τ sig (Elt F) Λ₀ .tc) α} :
    iprop(∃ Y, owns' c (m.slice r hr) fullShare Y)
      ⊢ iprop((owns' c (m.slice r hr) fullShare w -∗ wpb c (k ⟨⟩) Q) -∗ wpb c (.op (.store m r w Finset.univ hx hm) k) Q) := by
  unfold owns' ownsTc owns
  iintro ⟨%Y, %f, %hf, H⟩ Hk
  iapply (wp_store 𝒱₀ (c : Thread nD τ) none Set.univ (m := m) (r := r) (w := w) (Mk := Finset.univ) (S := (m.slice r hr).view.set) (f := f) (Finset.Subset.refl _)) $$ H
  iintro H
  iapply Hk; iexists (m.access r).write (Elt F) f w Finset.univ
  isplitr; · (ipureintro; exact View.read_write_univ ..)
  iexact H

/-- A load, whose value is not used, through a rectangle owned at some contents. -/
theorem load_any (c : Dev nD) {s : Shape} {e : EltTy} (m : Memref sig .tc .vmem s e) (r : Rect s) (hr : ∀ a, r.stride a = 1)
    {hl : m.view.LoadsAt r.toLoadRect} {k : Prog (TpuEff nD τ sig (Elt F) Λ₀ .tc) α} :
    iprop(∃ Y, owns' c (m.slice r hr) fullShare Y)
      ⊢ iprop(((∃ Y, owns' c (m.slice r hr) fullShare Y) -∗ wpb c k Q) -∗ wpb c (.op (.load m r.toLoadRect hl) fun _ => k) Q) := by
  iintro ⟨%Y, H⟩ Hk
  iapply (load_slice c m r hr fullShare Y (k := fun _ => k)) $$ H
  iintro H; iapply Hk; iexists Y; iexact H

/-! ## The shared context, and what a device owes -/

variable (X : Dev nD → S1x1024x512.Idx → Elt F .bf16) (G : Dev nD → S1x512.Idx → Elt F .bf16) (K : GSem nD τ sig → ℕ)

/-- The schedule at the slabs the kernel carries. -/
abbrev Rd : Rounds.Schedule (GSem nD τ sig) (Fin 3) 𝕄 := sched (carried X G)

/-- What every device knows: the cells' invariants, that the barrier cells are open, the levels. -/
def ctx : sProp 𝕄 :=
  iprop((bigSep Finset.univ fun c : Dev nD => cellInv ER (Rd X G) (K (barCell c)) (barCell c))
    ∗ (bigSep Finset.univ fun p : Dev nD × Fin 16 => cellInv ER (Rd X G) (K (sCell p.1 p.2)) (sCell p.1 p.2))
    ∗ (bigSep Finset.univ fun p : Dev nD × Fin 16 => cellInv ER (Rd X G) (K (rCell p.1 p.2)) (rCell p.1 p.2))
    ∗ (bigSep Finset.univ fun c : Dev nD => reached ER (barCell c) 0) ∗ levAts L lv)
instance ctx_persistent : BI.Persistent (ctx X G K) := by unfold ctx; infer_instance

/-- One member of a family. -/
theorem fam_at {I : Type} [Fintype I] [DecidableEq I] (Φ : I → sProp 𝕄) (i : I) : (bigSep Finset.univ Φ : sProp 𝕄) ⊢ Φ i := bigSep_elim (Finset.mem_univ i)

theorem ctx_bar (c : Dev nD) : ctx X G K ⊢ iprop(cellInv ER (Rd X G) (K (barCell c)) (barCell c) ∗ reached ER (barCell c) 0) := by
  unfold ctx
  iintro ⟨#H1, -, -, #H4, -⟩
  isplitr
  · iapply (fam_at (fun c : Dev nD => cellInv ER (Rd X G) (K (barCell c)) (barCell c)) c); iexact H1
  · iapply (fam_at (fun c : Dev nD => (reached ER (barCell c) 0 : sProp 𝕄)) c); iexact H4
theorem ctx_s (c : Dev nD) (l : Fin 16) : ctx X G K ⊢ cellInv ER (Rd X G) (K (sCell c l)) (sCell c l) := by
  unfold ctx
  iintro ⟨-, #H, -, -, -⟩
  iapply (fam_at (fun p : Dev nD × Fin 16 => cellInv ER (Rd X G) (K (sCell p.1 p.2)) (sCell p.1 p.2)) (c, l)); iexact H
theorem ctx_r (c : Dev nD) (l : Fin 16) : ctx X G K ⊢ cellInv ER (Rd X G) (K (rCell c l)) (rCell c l) := by
  unfold ctx
  iintro ⟨-, -, #H, -, -⟩
  iapply (fam_at (fun p : Dev nD × Fin 16 => cellInv ER (Rd X G) (K (rCell p.1 p.2)) (rCell p.1 p.2)) (c, l)); iexact H
theorem ctx_lev : ctx X G K ⊢ levAts L lv := by
  unfold ctx; iintro ⟨-, -, -, -, #H⟩; iexact H

/-- Device `c` has paid `n` of what it owes. -/
def owe (c : Dev nD) (n : ℕ) : sProp 𝕄 := iprop(∃ W, owes (c : Thread nD τ) (owed c n) W)

/-! ## The families -/

/-- What the `i`-th transfer takes: the tokens of both its ends, the place it lands in. -/
def tokS (c : Dev nD) (i : Fin 16) : sProp 𝕄 :=
  iprop(dutyTok ER (sCell c (ord i)) 0 0 ∗ reached ER (sCell c (ord i)) 0 ∗ dutyTok ER (rCell (peer (ord i) c) (ord i)) 0 0)
def toSend (c : Dev nD) (i : Fin 16) : sProp 𝕄 := iprop(tokS c i ∗ landing (peer (ord i) c) (ord i))
/-- What a finished issue leaves to wait with. -/
def crdS (c : Dev nD) (i : Fin 16) : sProp 𝕄 := cred (tallyAt (sCell c (ord i)) () N)
def atS (c : Dev nD) (i : Fin 16) : sProp 𝕄 := atPos ER (sCell c (ord i)) 0 ∅ 0
def toWait (c : Dev nD) (i : Fin 16) : sProp 𝕄 := iprop(crdS c i ∗ atS c i)
def waited (c : Dev nD) (i : Fin 16) : sProp 𝕄 := iprop(sent (carried X G) c (ord i) ∗ atPos ER (sCell c (ord i)) 1 ∅ 0)
/-- What the wait for a landing takes, and leaves. -/
def toRecv (c : Dev nD) (l : Fin 16) : sProp 𝕄 := iprop(cred (tallyAt (rCell c l) () N) ∗ atPos ER (rCell c l) 0 ∅ 0)
def recv (c : Dev nD) (l : Fin 16) : sProp 𝕄 := iprop(recvd (carried X G) c l ∗ atPos ER (rCell c l) 1 ∅ 0)

/-- The slabs to fill for the first axis, for the later axes. -/
def free8 (c : Dev nD) (k : Fin 8) : sProp 𝕄 := slot c (slab8 sxM k.val k.isLt)
def free4 (c : Dev nD) (k : Fin 4) : sProp 𝕄 := slot c (slab4 oqM k.val k.isLt)

/-- The staged partial sums; the result's buffer with `k` blocks written. -/
def stP (c : Dev nD) : sProp 𝕄 := (pM.view.loc (c : Thread nD τ) ↦[pM.view.set]{fullShare} X c)
def stG (c : Dev nD) : sProp 𝕄 := (gM.view.loc (c : Thread nD τ) ↦[gM.view.set]{fullShare} G c)
def filled (c : Dev nD) (k : ℕ) : sProp 𝕄 := iprop(∃ f, ⌜Filled X G c k f⌝ ∗ (oM.view.loc (c : Thread nD τ) ↦[oM.view.set]{fullShare} f))

/-! ## Transfers -/

/-- What a slab reads after a transfer into it is what the source slab read. -/
theorem landed_read (src dst : Memref sig .tc .vmem S1x32x512 .bf16) (fd : dst.view.ty.Contents (Elt F)) (fs : src.view.ty.Contents (Elt F)) :
    dst.view.read (Elt F) ((flat dst).view.write (Elt F) fd ((flat src).view.read (Elt F) fs) Finset.univ) = src.view.read (Elt F) fs := by
  funext x
  have hq : S32x512.numel = S1x32x512.numel := by decide
  obtain ⟨y, rfl⟩ := (Shape.reshapeEquiv hq).surjective x
  exact View.read_write_reshape dst.view hq fd ((flat src).view.read (Elt F) fs) y

theorem flat_set (m : Memref sig .tc .vmem S1x32x512 .bf16) : (flat m).view.set = m.view.set := View.set_reshape _ _

theorem tgt_send (c : Dev nD) (i : Fin 16) : tgt c (3 + i.val) = rCell (peer (ord i) c) (ord i) := by
  unfold tgt
  rw [dif_neg (by omega), dif_pos (by omega)]
  have : (⟨3 + i.val - 3, by omega⟩ : Fin 16) = i := Fin.ext (by show 3 + i.val - 3 = i.val; omega)
  rw [this]

/-- A transfer names the slab's elements. -/
theorem pts_flat (c : Dev nD) (m : Memref sig .tc .vmem S1x32x512 .bf16) (q : PosShare TreeShare) (f : m.view.ty.Contents (Elt F)) :
    (m.view.loc (c : Thread nD τ) ↦[m.view.set]{q} f : sProp 𝕄) = ((flat m).view.loc (c : Thread nD τ) ↦[(flat m).view.set]{q} f) := by
  have h : (m.view.loc (c : Thread nD τ) ↦[m.view.set]{q} f : sProp 𝕄) = (m.view.loc (c : Thread nD τ) ↦[(flat m).view.set]{q} f) := by rw [flat_set]
  exact h

/-- Owning the elements a transfer names is owning the slab. -/
theorem owns_flat (c : Dev nD) (m : Memref sig .tc .vmem S1x32x512 .bf16) (q : PosShare TreeShare) (f : m.view.ty.Contents (Elt F))
    (Y : S1x32x512.Idx → Elt F .bf16) (hY : m.view.read (Elt F) f = Y) :
    ((flat m).view.loc (c : Thread nD τ) ↦[(flat m).view.set]{q} f : sProp 𝕄) ⊢ owns' c m q Y := by
  subst hY
  have h : (m.view.loc (c : Thread nD τ) ↦[(flat m).view.set]{q} f : sProp 𝕄) ⊢ owns' c m q (m.view.read (Elt F) f) := by
    rw [flat_set]; exact owns_intro (c : Thread nD τ) m q f
  exact h

/-- The issuer's cell of a link is paid with the source; the receiver's with the slab landed. -/
theorem pay_sent (c : Dev nD) (l : Fin 16) (fs : (srcB l).view.ty.Contents (Elt F)) (hfs : (srcB l).view.read (Elt F) fs = carried X G c l) :
    ((flat (srcB l)).view.loc (c : Thread nD τ) ↦[(flat (srcB l)).view.set]{shr l} fs : sProp 𝕄) ⊢ (Rd X G).payload (sCell c l) 0 0 := by
  rw [payload_s]; exact owns_flat c (srcB l) (shr l) fs _ hfs
theorem pay_recvd (c : Dev nD) (l : Fin 16) (fs : (srcB l).view.ty.Contents (Elt F)) (hfs : (srcB l).view.read (Elt F) fs = carried X G c l)
    (fd : (dstB l).view.ty.Contents (Elt F)) :
    ((flat (dstB l)).view.loc (peer l c : Thread nD τ) ↦[(flat (dstB l)).view.set]{fullShare}
        (flat (dstB l)).view.write (Elt F) fd ((flat (srcB l)).view.read (Elt F) fs) Finset.univ : sProp 𝕄) ⊢ (Rd X G).payload (rCell (peer l c) l) 0 0 := by
  rw [payload_r]; unfold recvd; rw [peer_peer]
  exact owns_flat (peer l c) (dstB l) fullShare _ _ ((landed_read (srcB l) (dstB l) fd fs).trans hfs)

/-- A transfer from one place to another, its two payments given. -/
theorem send_core (c n : Dev nD) (src dst : Memref sig .tc .vmem S32x512 .bf16) (s r : DmaSem sig) (q : PosShare TreeShare) (κ₁ κ₂ : ℕ)
    {hsc : (dst : Memref sig (Dev.tc n : Thread nD τ).2.kind .vmem S32x512 .bf16).view.ref.isScScratch = false}
    {hsrc : src.view.WordExact} {hdst : dst.view.WordExact}
    {hsem : DmaTarget.Typed .vmem (.dma r) (.remote (Dev.tc n : Thread nD τ) dst (.dma s) hsc)}
    {k : PUnit → Prog (TpuEff nD τ sig (Elt F) Λ₀ .tc) α} (hN : dst.view.dmaCredit = N)
    (fs : Buf (Elt F) (src.view.loc (c : Thread nD τ))) (fd : Buf (Elt F) (dst.view.loc (n : Thread nD τ))) (O₀ O : CellTallies nD τ sig Unit) (W : Waits sig Unit)
    (hO : O₀ = O + tallyAt ((n : Thread nD τ), .dma r) () N)
    (h₁ : (src.view.loc (c : Thread nD τ) ↦[src.view.set]{q} fs : sProp 𝕄) ⊢ (Rd X G).payload ((c : Thread nD τ), .dma s) 0 0)
    (h₂ : (dst.view.loc (n : Thread nD τ) ↦[dst.view.set]{fullShare}
        dst.view.write (Elt F) fd (src.view.read (Elt F) fs) Finset.univ : sProp 𝕄) ⊢ (Rd X G).payload ((n : Thread nD τ), .dma r) 0 0) :
    iprop(cellInv ER (Rd X G) κ₁ ((c : Thread nD τ), .dma s) ∗ cellInv ER (Rd X G) κ₂ ((n : Thread nD τ), .dma r)
        ∗ (src.view.loc (c : Thread nD τ) ↦[src.view.set]{q} fs) ∗ (dst.view.loc (n : Thread nD τ) ↦[dst.view.set]{fullShare} fd)
        ∗ owes (c : Thread nD τ) O₀ W
        ∗ dutyTok ER ((c : Thread nD τ), .dma s) 0 0 ∗ reached ER ((c : Thread nD τ), .dma s) 0
        ∗ dutyTok ER ((n : Thread nD τ), .dma r) 0 0 ∗ reached ER ((n : Thread nD τ), .dma r) 0)
      ⊢ iprop(((cred (tallyAt ((c : Thread nD τ), SemLoc.dma s) () N) ∗ owes (c : Thread nD τ) O W) -∗ wpb c (k ⟨⟩) Q)
          -∗ wpb c (.op (.enqueueDma src (.remote (Dev.tc n : Thread nD τ) dst (.dma s) hsc) (.dma r) hsrc hdst hsem) k) Q) :=
  Rounds.wp_send_pointsTo 𝒱₀ ER (Rd X G) (c : Thread nD τ) none (κ₁ := κ₁) (κ₂ := κ₂)
    (r₁ := 0) (r₂ := 0) (d₁ := 0) (d₂ := 0) (fs := fs) (fd := fd) (q := q)
    (mem_dma (carried X G) c s) (mem_dma (carried X G) n r) () () N hN (amount_dma (carried X G) c s)
    (amount_dma (carried X G) n r) O hO (W := W) h₁ h₂

/-- The `i`-th transfer, from its slab at its share to the place its partner opened. -/
theorem send (c n : Dev nD) (i : Fin 16) (hn : n = peer (ord i) c) (src dst : Memref sig .tc .vmem S1x32x512 .bf16)
    (hs : src = srcB (ord i)) (hd : dst = dstB (ord i)) (s r : DmaSem sig) (hss : s = ssem (ord i)) (hrr : r = rsem (ord i))
    {hsc : (flat dst : Memref sig (Dev.tc n : Thread nD τ).2.kind .vmem S32x512 .bf16).view.ref.isScScratch = false}
    {hsrc : (flat src).view.WordExact} {hdst : (flat dst).view.WordExact}
    {hsem : DmaTarget.Typed .vmem (.dma r) (.remote (Dev.tc n : Thread nD τ) (flat dst) (.dma s) hsc)}
    {k : PUnit → Prog (TpuEff nD τ sig (Elt F) Λ₀ .tc) α} :
    iprop(ctx X G K ∗ sent (carried X G) c (ord i) ∗ owe c (3 + i.val) ∗ rest (toSend c) i.val ∗ done (crdS c) i.val)
      ⊢ iprop(((owe c (3 + i.val + 1) ∗ rest (toSend c) (i.val + 1) ∗ done (crdS c) (i.val + 1)) -∗ wpb c (k ⟨⟩) Q)
          -∗ wpb c (.op (.enqueueDma (flat src) (.remote (Dev.tc n : Thread nD τ) (flat dst) (.dma s) hsc) (.dma r) hsrc hdst hsem) k) Q) := by
  subst hn hs hd hss hrr
  rw [rest_step (toSend c) i.val i.isLt, done_step (crdS c) i.val i.isLt]
  unfold sent toSend tokS landing slot crdS owe ownsTc owns
  iintro ⟨#Hctx, ⟨%fs, %hfs, Hs⟩, ⟨%W, HO⟩, ⟨⟨⟨HtS, #HrS, HtR⟩, ⟨%Y, %fd, -, Hd⟩, #HrR⟩, Hrest⟩, Hdone⟩ Hk
  ihave #HIs := (ctx_s X G K c (ord i)) $$ Hctx
  ihave #HIr := (ctx_r X G K (peer (ord i) c) (ord i)) $$ Hctx
  have hO : owed c (3 + i.val) = owed c (3 + i.val + 1) + tallyAt (rCell (peer (ord i) c) (ord i)) () N := by
    rw [owed_step c (by omega), tgt_send]; rfl
  iapply (send_core X G c (peer (ord i) c) (flat (srcB (ord i))) (flat (dstB (ord i))) (ssem (ord i)) (rsem (ord i)) (shr (ord i))
    (K (sCell c (ord i))) (K (rCell (peer (ord i) c) (ord i))) (credit_dst _) fs fd _ _ W hO
    (pay_sent X G c (ord i) fs hfs) (pay_recvd X G c (ord i) fs hfs fd)) $$ [Hs Hd HO HtS HtR]
  · isplitr; · iexact HIs
    isplitr; · iexact HIr
    isplitl [Hs]; · iapply (Entails.of_eq (pts_flat c (srcB (ord i)) (shr (ord i)) fs)); iexact Hs
    isplitl [Hd]; · iapply (Entails.of_eq (pts_flat (peer (ord i) c) (dstB (ord i)) fullShare fd)); iexact Hd
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  isplitl [Hrest]; · iexact Hrest
  isplitl [Hc]; · iexact Hc
  iexact Hdone

/-! ## Waits -/

/-- A wait on a cell of a link, which it may: the cell's payload and the position after it. -/
theorem wait_link (c : Dev nD) (q : DmaSem sig) (κ n : ℕ) (h : lvs (.dma q) < floor n ∨ n = 19)
    {src dst : Memref sig .tc .vmem S32x512 .bf16} {hsrc : src.view.WordExact} {hdst : dst.view.WordExact} (hN : dst.view.dmaCredit = N)
    {k : PUnit → Prog (TpuEff nD τ sig (Elt F) Λ₀ .tc) α} :
    iprop(cellInv ER (Rd X G) κ ((c : Thread nD τ), .dma q) ∗ levAts L lv ∗ cred (tallyAt ((c : Thread nD τ), SemLoc.dma q) () N) ∗ owe c n
        ∗ atPos ER ((c : Thread nD τ), .dma q) 0 ∅ 0)
      ⊢ iprop(((owe c n ∗ atPos ER ((c : Thread nD τ), .dma q) 1 ∅ 0
            ∗ bigSep ((Rd X G).duties ((c : Thread nD τ), .dma q) 0 \ ∅) fun d => (Rd X G).payload ((c : Thread nD τ), .dma q) 0 d) -∗ wpb c (k ⟨⟩) Q)
          -∗ wpb c (.op (.waitDma2 q src dst hsrc hdst) k) Q) := by
  unfold owe
  iintro ⟨#HI, #Hlev, Hc, ⟨%W, HO⟩, Hat⟩ Hk
  iapply (Rounds.wp_wait_rest_token 𝒱₀ ER (Rd X G) (c : Thread nD τ) none (κ := κ)
      (wpE_waitDma2_eq 𝒱₀ (c : Thread nD τ) none Set.univ) (Set.mem_univ _) () (O := owed c n) (W := W) (R := 0) (m := 0) (T := ∅)
      (by rw [Nat.zero_add, hN, expect_dma])) $$ [Hc HO Hat]
  · isplitr; · iexact HI
    isplitl [Hc]; · rw [hN]; iexact Hc
    isplitl [HO]; · iexact HO
    isplitr
    · rcases h with h | h
      · iapply (mayWait_owed c (.dma q) n h); iexact Hlev
      · subst h; rw [owed_end, MayWait_zero]; iempintro
    iexact Hat
  iintro ⟨HO, Hat, -, Hpay⟩
  iapply Hk
  isplitl [HO]; · iexists (insert (SemLoc.dma q, ()) W); iexact HO
  isplitl [Hat]; · iexact Hat
  iexact Hpay

/-- The wait for the landing over link `l`. -/
theorem wait_recv (c : Dev nD) (l : Fin 16) (n : ℕ) (h : lvs (.dma (rsem l)) < floor n ∨ n = 19) (r : DmaSem sig) (hr : r = rsem l)
    {src dst : Memref sig .tc .vmem S32x512 .bf16} {hsrc : src.view.WordExact} {hdst : dst.view.WordExact} (hN : dst.view.dmaCredit = N)
    {k : PUnit → Prog (TpuEff nD τ sig (Elt F) Λ₀ .tc) α} :
    iprop(ctx X G K ∗ owe c n ∗ rest (toRecv c) l.val)
      ⊢ iprop(((owe c n ∗ rest (toRecv c) (l.val + 1) ∗ recv X G c l) -∗ wpb c (k ⟨⟩) Q)
          -∗ wpb c (.op (.waitDma2 r src dst hsrc hdst) k) Q) := by
  subst hr
  rw [rest_step (toRecv c) l.val l.isLt]
  unfold toRecv recv
  iintro ⟨#Hctx, HO, ⟨Hc, Hat⟩, Hrest⟩ Hk
  iapply (wait_link X G c (rsem l) (K (rCell c l)) n h hN) $$ [Hc HO Hat]
  · isplitr; · iapply (ctx_r X G K c l); iexact Hctx
    isplitr; · iapply (ctx_lev X G K); iexact Hctx
    isplitl [Hc]; · iexact Hc
    isplitl [HO]; · iexact HO
    iexact Hat
  iintro ⟨HO, Hat, Hpay⟩
  iapply Hk
  isplitl [HO]; · iexact HO
  isplitl [Hrest]; · iexact Hrest
  isplitl [Hpay]; · iapply (Entails.of_eq (rest_r (carried X G) c l)); iexact Hpay
  iexact Hat

/-- The wait for the `i`-th transfer of its own. -/
theorem wait_sent (c : Dev nD) (i : Fin 16) (s : DmaSem sig) (hs : s = ssem (ord i))
    {src dst : Memref sig .tc .vmem S32x512 .bf16} {hsrc : src.view.WordExact} {hdst : dst.view.WordExact} (hN : dst.view.dmaCredit = N)
    {k : PUnit → Prog (TpuEff nD τ sig (Elt F) Λ₀ .tc) α} :
    iprop(ctx X G K ∗ owe c 19 ∗ rest (toWait c) i.val ∗ done (waited X G c) i.val)
      ⊢ iprop(((owe c 19 ∗ rest (toWait c) (i.val + 1) ∗ done (waited X G c) (i.val + 1)) -∗ wpb c (k ⟨⟩) Q)
          -∗ wpb c (.op (.waitDma2 s src dst hsrc hdst) k) Q) := by
  subst hs
  rw [rest_step (toWait c) i.val i.isLt, done_step (waited X G c) i.val i.isLt]
  unfold toWait waited crdS atS
  iintro ⟨#Hctx, HO, ⟨⟨Hc, Hat⟩, Hrest⟩, Hdone⟩ Hk
  iapply (wait_link X G c (ssem (ord i)) (K (sCell c (ord i))) 19 (.inr rfl) hN) $$ [Hc HO Hat]
  · isplitr; · iapply (ctx_s X G K c (ord i)); iexact Hctx
    isplitr; · iapply (ctx_lev X G K); iexact Hctx
    isplitl [Hc]; · iexact Hc
    isplitl [HO]; · iexact HO
    iexact Hat
  iintro ⟨HO, Hat, Hpay⟩
  iapply Hk
  isplitl [HO]; · iexact HO
  isplitl [Hrest]; · iexact Hrest
  isplitl [Hpay Hat]
  · isplitl [Hpay]; · iapply (Entails.of_eq (rest_s (carried X G) c (ord i))); iexact Hpay
    iexact Hat
  iexact Hdone

/-- The wait at the barrier: the partners' places to land in. -/
theorem wait_bar (c : Dev nD) {k : PUnit → Prog (TpuEff nD τ sig (Elt F) Λ₀ .tc) α} :
    iprop(ctx X G K ∗ owe c 3 ∗ cred (tallyAt (barCell c) () 3) ∗ atPos ER (barCell c) 0 ∅ 0 ∗ bigSep Finset.univ (tokS c))
      ⊢ iprop(((owe c 3 ∗ atPos ER (barCell c) 1 ∅ 0 ∗ rest (toSend c) 0) -∗ wpb c (k ⟨⟩) Q)
          -∗ wpb c (.op (.semWait barS 3) k) Q) := by
  unfold owe
  iintro ⟨#Hctx, ⟨%W, HO⟩, Hc, Hat, Htok⟩ Hk
  iapply (Rounds.wp_wait_rest_token 𝒱₀ ER (Rd X G) (c : Thread nD τ) none (κ := K (barCell c))
      (wpE_semWait_eq 𝒱₀ (c : Thread nD τ) none Set.univ) (Set.mem_univ _) () (O := owed c 3) (W := W) (R := 0) (m := 0) (T := ∅)
      (by rw [Nat.zero_add, expect_bar])) $$ [Hc HO Hat]
  · isplitr
    · ihave ⟨#H, -⟩ := (ctx_bar X G K c) $$ Hctx; iexact H
    isplitl [Hc]; · iexact Hc
    isplitl [HO]; · iexact HO
    isplitr
    · iapply (mayWait_owed c (.reg barS) 3 (by decide)); iapply (ctx_lev X G K); iexact Hctx
    iexact Hat
  iintro ⟨HO, Hat, -, Hpay⟩
  iapply Hk
  isplitl [HO]; · iexists (insert (SemLoc.reg barS, ()) W); iexact HO
  isplitl [Hat]; · iexact Hat
  rw [rest_zero]
  unfold toSend
  rw [BI.bigSep_sep']
  isplitl [Htok]; · iexact Htok
  ihave Hp := (Entails.of_eq (rest_bar (carried X G) c)) $$ Hpay
  iapply (Entails.of_eq (BI.bigSep_univ_equiv ordEquiv (fun l : Fin 16 => landing (F := F) (peer l c) l))); iexact Hp

/-! ## Signals -/

/-- What device `c` opens to its partner along axis `a`: the token of its duty there, and its own landing places. -/
def toSignal (c : Dev nD) (a : Fin 3) : sProp 𝕄 :=
  iprop(dutyTok ER (barCell (nb a c)) 0 a ∗ bigSep (Finset.univ.filter fun l => axis l = a) fun l => landing c l)

/-- The signal along axis `a`. -/
theorem signal (c n : Dev nD) (a : Fin 3) (hn : n = nb a c) (b : Sem sig) (hb : b = barS)
    {k : PUnit → Prog (TpuEff nD τ sig (Elt F) Λ₀ .tc) α} :
    iprop(ctx X G K ∗ owe c a.val ∗ toSignal c a)
      ⊢ iprop((owe c (a.val + 1) -∗ wpb c (k ⟨⟩) Q) -∗ wpb c (.op (.semSignal (Dev.tc n : Thread nD τ) b 1) k) Q) := by
  subst hn hb
  unfold owe toSignal
  iintro ⟨#Hctx, ⟨%W, HO⟩, Htok, Hland⟩ Hk
  ihave ⟨#HI, #Hr⟩ := (ctx_bar X G K (nb a c)) $$ Hctx
  have hO : owed c a.val = owed c (a.val + 1) + tallyAt (barCell (nb a c)) () 1 := by
    rw [owed_step c (by omega)]; unfold tgt; rw [dif_pos a.isLt]; rfl
  have hpay : (bigSep (Finset.univ.filter fun l => axis l = a) fun l => landing (F := F) c l) = (Rd X G).payload (barCell (nb a c)) 0 a := by
    have h : (Rd X G).payload (barCell (nb a c)) 0 a = barPay (nb a c) a := rfl
    rw [h]; unfold barPay; rw [nb_nb]
  iapply (Rounds.wp_signal 𝒱₀ ER (Rd X G) (c : Thread nD τ) none (dst := (nb a c : Thread nD τ)) (sem := barS) (r := 0) (d := a) (κ := K (barCell (nb a c)))
    (by rw [duties_bar]; exact Finset.mem_univ a) rfl () (owed c (a.val + 1)) hO (W := W)) $$ [HO Htok Hland]
  · isplitr; · iexact HI
    isplitl [HO]; · iexact HO
    isplitl [Htok]; · iexact Htok
    isplitl [Hland]; · iapply (Entails.of_eq hpay); iexact Hland
    iexact Hr
  iintro HO
  iapply Hk; iexists W; iexact HO

/-! ## Filling, finishing, passing on -/

section Blocks

theorem read_p (c : Dev nD) (b : Fin 32) (off : Fin 3 → ℕ) (inb : ∀ a, off a + S1x32x512.size a ≤ S1x1024x512.size a) (ho : off = ![0, 32 * b.val, 0])
    {hl : pM.view.LoadsAt (Rect.unit (s := S1x1024x512) off S1x32x512.size inb).toLoadRect}
    {k : (S1x32x512.Idx → Elt F .bf16) → Prog (TpuEff nD τ sig (Elt F) Λ₀ .tc) α} :
    stP X c ⊢ iprop((stP X c -∗ wpb c (k (psl (X c) b)) Q) -∗ wpb c (.op (.load pM (Rect.unit (s := S1x1024x512) off S1x32x512.size inb).toLoadRect hl) k) Q) := by
  subst ho
  exact load_whole c pM (prect b) fullShare (X c)

/-- Slab `l` of those for the first axis filled with the partner's rows. -/
theorem fill (c : Dev nD) (l : Fin 16) (h : l.val < 8) (off : Fin 3 → ℕ) (inb : ∀ a, off a + S1x32x512.size a ≤ S1x1024x512.size a)
    (ho : off = ![0, 32 * (sblk c l).val, 0]) (pay : (S1x32x512.Idx → Elt F .bf16) → (S1x32x512.Idx → Elt F .bf16)) (hpay : pay = k0_pay1)
    {hl : pM.view.LoadsAt (Rect.unit (s := S1x1024x512) off S1x32x512.size inb).toLoadRect}
    {hl' : sxM.view.LoadsAt (rect8 l.val h).toLoadRect} {hx : (sxM.access (rect8 l.val h)).Stores Finset.univ}
    {hm : Finset.univ = Finset.univ ∨ ∀ a, (rect8 l.val h).stride a = 1} {k : PUnit → Prog (TpuEff nD τ sig (Elt F) Λ₀ .tc) α} :
    iprop(stP X c ∗ rest (free8 c) l.val)
      ⊢ iprop(((stP X c ∗ rest (free8 c) (l.val + 1) ∗ sent (carried X G) c l) -∗ wpb c (k ⟨⟩) Q)
          -∗ wpb c (.op (.load pM (Rect.unit (s := S1x1024x512) off S1x32x512.size inb).toLoadRect hl) fun v =>
              .op (.load sxM (rect8 l.val h).toLoadRect hl') fun _ => .op (.store sxM (rect8 l.val h) (pay v) Finset.univ hx hm) k) Q) := by
  subst hpay
  rw [rest_step (free8 c) l.val h]
  have hsent : sent (carried X G) c l = owns' c (slab8 sxM l.val h) fullShare (k0_pay1 (psl (X c) (sblk c l))) := by
    unfold sent carried xslab srcB shr; rw [if_pos h, dif_pos h, if_pos h]
  have hfree : free8 c ⟨l.val, h⟩ = iprop(∃ Y, owns' (F := F) c (sxM.slice (rect8 l.val h) (fun _ => rfl)) fullShare Y) := rfl
  rw [hsent, hfree]
  iintro ⟨HP, Hf, Hrest⟩ Hk
  iapply (read_p X c (sblk c l) off inb ho) $$ HP
  iintro HP
  iapply (load_any c sxM (rect8 l.val h) (fun _ => rfl)) $$ Hf
  iintro Hf
  iapply (store_slice c sxM (rect8 l.val h) (fun _ => rfl) _) $$ Hf
  iintro Hf
  iapply Hk
  isplitl [HP]; · iexact HP
  isplitl [Hrest]; · iexact Hrest
  iexact Hf

/-- A block of rows written over the result's buffer, after a load of it that is not used. -/
theorem put (c : Dev nD) (l : Fin 16) (off : Fin 2 → ℕ) (inb : ∀ a, off a + S32x512.size a ≤ S512x512.size a) (ho : off = ![32 * (blk c l).val, 0])
    (w : S32x512.Idx → Elt F .f32) (hw : w = oval X G c l)
    {hl : oM.view.LoadsAt (Rect.unit (s := S512x512) off S32x512.size inb).toLoadRect}
    {hx : (oM.access (Rect.unit (s := S512x512) off S32x512.size inb)).Stores Finset.univ}
    {hm : Finset.univ = Finset.univ ∨ ∀ a, (Rect.unit (s := S512x512) off S32x512.size inb).stride a = 1} {k : PUnit → Prog (TpuEff nD τ sig (Elt F) Λ₀ .tc) α} :
    filled X G c l.val
      ⊢ iprop((filled X G c (l.val + 1) -∗ wpb c (k ⟨⟩) Q)
          -∗ wpb c (.op (.load oM (Rect.unit (s := S512x512) off S32x512.size inb).toLoadRect hl) fun _ =>
              .op (.store oM (Rect.unit (s := S512x512) off S32x512.size inb) w Finset.univ hx hm) k) Q) := by
  subst ho hw
  unfold filled
  iintro ⟨%f, %hf, H⟩ Hk
  iapply (load_whole c oM (orect (blk c l)) fullShare f) $$ H
  iintro H
  iapply (wp_store 𝒱₀ (c : Thread nD τ) none Set.univ (m := oM) (r := orect (blk c l)) (w := oval X G c l) (Mk := Finset.univ) (S := oM.view.set) (f := f)
    (View.set_slice_subset _ _)) $$ H
  iintro H
  iapply Hk; iexists _; isplitr
  · ipureintro; exact filled_step X G c l.isLt hf
  iexact H

/-- What is landed over a link of the first axis. -/
theorem recvd_x (c : Dev nD) (l : Fin 16) (h : l.val < 8) : recvd (carried X G) c l = owns' c (slab8 rxM l.val h) fullShare (xslab X (xp c) l) := by
  unfold recvd carried dstB peer; rw [if_pos h, if_pos h, dif_pos h]

/-- The landing over link `l` of the first axis waited for, its rows finished and written. -/
theorem finish (c : Dev nD) (l : Fin 16) (h : l.val < 8) (n : ℕ) (hn : lvs (.dma (rsem l)) < floor n ∨ n = 19) (r : DmaSem sig) (hr : r = rsem l)
    {src dst : Memref sig .tc .vmem S32x512 .bf16} {hsrc : src.view.WordExact} {hdst : dst.view.WordExact} (hN : dst.view.dmaCredit = N)
    (off : Fin 3 → ℕ) (inb : ∀ a, off a + S1x32x512.size a ≤ S1x1024x512.size a) (ho : off = ![0, 32 * (kblk c l).val, 0])
    (off' : Fin 2 → ℕ) (inb' : ∀ a, off' a + S32x512.size a ≤ S512x512.size a) (ho' : off' = ![32 * (blk c l).val, 0])
    (pay : (S1x32x512.Idx → Elt F .bf16) → (S1x32x512.Idx → Elt F .bf16) → (S32x512.Idx → Elt F .f32)) (hpay : pay = k0_pay13 (k0_pay9 (grow (G c))))
    {hl : rxM.view.LoadsAt (rect8 l.val h).toLoadRect}
    {hl' : pM.view.LoadsAt (Rect.unit (s := S1x1024x512) off S1x32x512.size inb).toLoadRect}
    {hl'' : oM.view.LoadsAt (Rect.unit (s := S512x512) off' S32x512.size inb').toLoadRect}
    {hx : (oM.access (Rect.unit (s := S512x512) off' S32x512.size inb')).Stores Finset.univ}
    {hm : Finset.univ = Finset.univ ∨ ∀ a, (Rect.unit (s := S512x512) off' S32x512.size inb').stride a = 1}
    {k : (S1x32x512.Idx → Elt F .bf16) → (S1x32x512.Idx → Elt F .bf16) → PUnit → Prog (TpuEff nD τ sig (Elt F) Λ₀ .tc) α} :
    iprop(ctx X G K ∗ owe c n ∗ rest (toRecv c) l.val ∗ done (recv X G c) l.val ∗ stP X c ∗ filled X G c l.val)
      ⊢ iprop(((owe c n ∗ rest (toRecv c) (l.val + 1) ∗ done (recv X G c) (l.val + 1) ∗ stP X c ∗ filled X G c (l.val + 1))
              -∗ wpb c (k (xslab X (xp c) l) (psl (X c) (kblk c l)) ⟨⟩) Q)
          -∗ wpb c (.op (.waitDma2 r src dst hsrc hdst) fun _ => .op (.load rxM (rect8 l.val h).toLoadRect hl) fun v =>
              .op (.load pM (Rect.unit (s := S1x1024x512) off S1x32x512.size inb).toLoadRect hl') fun w =>
              .op (.load oM (Rect.unit (s := S512x512) off' S32x512.size inb').toLoadRect hl'') fun _ =>
              .op (.store oM (Rect.unit (s := S512x512) off' S32x512.size inb') (pay v w) Finset.univ hx hm) (k v w)) Q) := by
  subst hpay
  rw [done_step (recv X G c) l.val l.isLt]
  iintro ⟨#Hctx, HO, Hrest, Hdone, HP, Hout⟩ Hk
  iapply (wait_recv X G K c l n hn r hr hN) $$ [HO Hrest]
  · isplitr; · iexact Hctx
    isplitl [HO]; · iexact HO
    iexact Hrest
  iintro ⟨HO, Hrest, Hr⟩
  unfold recv
  icases Hr with ⟨Hr, Hat⟩
  ihave Hr := (Entails.of_eq (recvd_x X G c l h)) $$ Hr
  iapply (load_slice c rxM (rect8 l.val h) (fun _ => rfl) fullShare _) $$ Hr
  iintro Hr
  iapply (read_p X c (kblk c l) off inb ho) $$ HP
  iintro HP
  iapply (put X G c l off' inb' ho' _ (by unfold oval nslab; rw [if_pos h])) $$ Hout
  iintro Hout
  iapply Hk
  isplitl [HO]; · iexact HO
  isplitl [Hrest]; · iexact Hrest
  isplitl [Hr Hat Hdone]
  · isplitl [Hr Hat]
    · isplitl [Hr]; · iapply (Entails.of_eq (recvd_x X G c l h).symm); iexact Hr
      iexact Hat
    iexact Hdone
  isplitl [HP]; · iexact HP
  iexact Hout

/-- The rows finished for `s` put in the slab both later axes send from: owned at both their shares. -/
theorem pass (c : Dev nD) (s : Fin 4) (w : S1x32x512.Idx → Elt F .bf16) (hw : w = qslab X G c ⟨s.val, by omega⟩)
    {hl : oqM.view.LoadsAt (rect4 s.val s.isLt).toLoadRect} {hx : (oqM.access (rect4 s.val s.isLt)).Stores Finset.univ}
    {hm : Finset.univ = Finset.univ ∨ ∀ a, (rect4 s.val s.isLt).stride a = 1} {k : PUnit → Prog (TpuEff nD τ sig (Elt F) Λ₀ .tc) α} :
    rest (free4 c) s.val
      ⊢ iprop(((rest (free4 c) (s.val + 1) ∗ sent (carried X G) c ⟨8 + s.val, by omega⟩ ∗ sent (carried X G) c ⟨12 + s.val, by omega⟩) -∗ wpb c (k ⟨⟩) Q)
          -∗ wpb c (.op (.load oqM (rect4 s.val s.isLt).toLoadRect hl) fun _ => .op (.store oqM (rect4 s.val s.isLt) w Finset.univ hx hm) k) Q) := by
  have hs := s.isLt
  rw [rest_step (free4 c) s.val s.isLt]
  have hfree : free4 c ⟨s.val, s.isLt⟩ = iprop(∃ Y, owns' (F := F) c (oqM.slice (rect4 s.val s.isLt) (fun _ => rfl)) fullShare Y) := rfl
  have hsl (i : ℕ) (hi : i < 4) (e : i = s.val) : slab4 oqM i hi = slab4 oqM s.val s.isLt := by subst e; rfl
  have hq (i : ℕ) (hi : i < 16) (e : i = s.val) : qslab X G c ⟨i, hi⟩ = w := by subst e; exact hw.symm
  have h1 : sent (carried X G) c ⟨8 + s.val, by omega⟩ = owns' c (slab4 oqM s.val s.isLt) fullShare.left w := by
    unfold sent carried srcB shr
    simp only [show ¬ 8 + s.val < 8 by omega, show 8 + s.val < 12 by omega, dif_neg, dif_pos, if_neg, if_pos, not_false_eq_true]
    rw [hsl _ _ (by omega), hq _ _ (by omega)]
  have h2 : sent (carried X G) c ⟨12 + s.val, by omega⟩ = owns' c (slab4 oqM s.val s.isLt) fullShare.right w := by
    unfold sent carried srcB shr
    simp only [show ¬ 12 + s.val < 8 by omega, show ¬ 12 + s.val < 12 by omega, dif_neg, dif_pos, if_neg, if_pos, not_false_eq_true]
    rw [hsl _ _ (by omega), hq _ _ (by omega)]
  rw [h1, h2, hfree]
  iintro ⟨Hf, Hrest⟩ Hk
  iapply (load_any c oqM (rect4 s.val s.isLt) (fun _ => rfl)) $$ Hf
  iintro Hf
  iapply (store_slice c oqM (rect4 s.val s.isLt) (fun _ => rfl) w) $$ Hf
  iintro Hf
  ihave Hh := (owns_share (c : Thread nD τ) (slab4 oqM s.val s.isLt) (PosShare.mem_left_op_right fullShare) w).1 $$ Hf
  icases Hh with ⟨Ha, Hb⟩
  iapply Hk
  isplitl [Hrest]; · iexact Hrest
  isplitl [Ha]; · iexact Ha
  iexact Hb

/-- The landing over a link of a later axis waited for, widened and written. -/
theorem face (c : Dev nD) (l : Fin 16) (h : 8 ≤ l.val) (b : Memref sig .tc .vmem S4x32x512 .bf16) (i : ℕ) (hi : i < 4) (hb : slab4 b i hi = dstB l)
    (r : DmaSem sig) (hr : r = rsem l)
    {src dst : Memref sig .tc .vmem S32x512 .bf16} {hsrc : src.view.WordExact} {hdst : dst.view.WordExact} (hN : dst.view.dmaCredit = N)
    (off' : Fin 2 → ℕ) (inb' : ∀ a, off' a + S32x512.size a ≤ S512x512.size a) (ho' : off' = ![32 * (blk c l).val, 0])
    (pay : (S1x32x512.Idx → Elt F .bf16) → (S32x512.Idx → Elt F .f32)) (hpay : pay = k0_pay29)
    {hl : b.view.LoadsAt (rect4 i hi).toLoadRect}
    {hl'' : oM.view.LoadsAt (Rect.unit (s := S512x512) off' S32x512.size inb').toLoadRect}
    {hx : (oM.access (Rect.unit (s := S512x512) off' S32x512.size inb')).Stores Finset.univ}
    {hm : Finset.univ = Finset.univ ∨ ∀ a, (Rect.unit (s := S512x512) off' S32x512.size inb').stride a = 1}
    {k : PUnit → Prog (TpuEff nD τ sig (Elt F) Λ₀ .tc) α} :
    iprop(ctx X G K ∗ owe c 19 ∗ rest (toRecv c) l.val ∗ done (recv X G c) l.val ∗ filled X G c l.val)
      ⊢ iprop(((owe c 19 ∗ rest (toRecv c) (l.val + 1) ∗ done (recv X G c) (l.val + 1) ∗ filled X G c (l.val + 1)) -∗ wpb c (k ⟨⟩) Q)
          -∗ wpb c (.op (.waitDma2 r src dst hsrc hdst) fun _ => .op (.load b (rect4 i hi).toLoadRect hl) fun v =>
              .op (.load oM (Rect.unit (s := S512x512) off' S32x512.size inb').toLoadRect hl'') fun _ =>
              .op (.store oM (Rect.unit (s := S512x512) off' S32x512.size inb') (pay v) Finset.univ hx hm) k) Q) := by
  subst hpay
  rw [done_step (recv X G c) l.val l.isLt]
  have hrv : recvd (carried X G) c l = owns' c (slab4 b i hi) fullShare (carried X G (peer l c) l) := by unfold recvd; rw [hb]
  iintro ⟨#Hctx, HO, Hrest, Hdone, Hout⟩ Hk
  iapply (wait_recv X G K c l 19 (.inr rfl) r hr hN) $$ [HO Hrest]
  · isplitr; · iexact Hctx
    isplitl [HO]; · iexact HO
    iexact Hrest
  iintro ⟨HO, Hrest, Hr⟩
  unfold recv
  icases Hr with ⟨Hr, Hat⟩
  ihave Hr := (Entails.of_eq hrv) $$ Hr
  iapply (load_slice c b (rect4 i hi) (fun _ => rfl) fullShare _) $$ Hr
  iintro Hr
  iapply (put X G c l off' inb' ho' _ (by unfold oval; rw [if_neg (by omega)])) $$ Hout
  iintro Hout
  iapply Hk
  isplitl [HO]; · iexact HO
  isplitl [Hrest]; · iexact Hrest
  isplitl [Hr Hat Hdone]
  · isplitl [Hr Hat]
    · isplitl [Hr]; · iapply (Entails.of_eq hrv.symm); iexact Hr
      iexact Hat
    iexact Hdone
  iexact Hout

end Blocks

end Cert.KernelIdeal.Run

end
-- ==== Proof.Body.lean ====
/- The kernel's body on one device, run step by step in program order: the three signals, the wait for them, the eight
   transfers along the first axis each right after its slab is filled, the blocks finished as they land (the first four passed
   on along both later axes), the landings of the later axes, and the waits for its own transfers. -/
module

public import proofs.«01_k».proof.Proof.Steps

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem srcB_x (l : Fin 16) (h : l.val < 8) : srcB l = slab8 sxM l.val h := dif_pos h
theorem dstB_x (l : Fin 16) (h : l.val < 8) : dstB l = slab8 rxM l.val h := dif_pos h
theorem srcB_y (s : Fin 4) : srcB ⟨8 + s.val, by omega⟩ = slab4 oqM s.val s.isLt := by fin_cases s <;> rfl
theorem dstB_y (s : Fin 4) : dstB ⟨8 + s.val, by omega⟩ = slab4 ryM s.val s.isLt := by fin_cases s <;> rfl
theorem srcB_z (s : Fin 4) : srcB ⟨12 + s.val, by omega⟩ = slab4 oqM s.val s.isLt := by fin_cases s <;> rfl
theorem dstB_z (s : Fin 4) : dstB ⟨12 + s.val, by omega⟩ = slab4 rzM s.val s.isLt := by fin_cases s <;> rfl

theorem credit (m : Memref sig .tc .vmem S32x512 .bf16) : m.view.dmaCredit = N := by unfold N; rfl
theorem xp_val : ∀ c : Dev nD, (2 * ((c.val / 2) % 2) + (c.val % 2) + 4) - 4 * (c.val / 4) = (xp c).val := by decide
theorem yn_val : ∀ c : Dev nD, (4 * (c.val / 4) + (c.val % 2) + 2) - 2 * ((c.val / 2) % 2) = (yn c).val := by decide
theorem zn_val : ∀ c : Dev nD, (4 * (c.val / 4) + 2 * ((c.val / 2) % 2) + 1) - (c.val % 2) = (zn c).val := by decide
theorem ord_x : ∀ k : Fin 8, ord ⟨k.val, by omega⟩ = ⟨k.val, by omega⟩ := by decide
theorem ord_y : ∀ i : Fin 4, ord ⟨8 + 2 * i.val, by omega⟩ = ⟨8 + i.val, by omega⟩ := by decide
theorem ord_z : ∀ i : Fin 4, ord ⟨8 + 2 * i.val + 1, by omega⟩ = ⟨12 + i.val, by omega⟩ := by decide
theorem peer_y : ∀ (i : Fin 4) (c : Dev nD), yn c = peer ⟨8 + i.val, by omega⟩ c := by decide
theorem peer_z : ∀ (i : Fin 4) (c : Dev nD), zn c = peer ⟨12 + i.val, by omega⟩ c := by decide

attribute [local irreducible] srcB dstB

variable {α : Type} {Q : α → sProp (MT nD τ sig Unit (Elt F) ℕ UU ℕ)}
variable (X : Dev nD → S1x1024x512.Idx → Elt F .bf16) (G : Dev nD → S1x512.Idx → Elt F .bf16) (K : GSem nD τ sig → ℕ)

/-- A load of the whole staged scale. -/
theorem read_g (c : Dev nD) {hl : gM.view.LoadsAt grect.toLoadRect} {p : (S1x512.Idx → Elt F .bf16) → Prog (TpuEff nD τ sig (Elt F) Λ₀ .tc) α} :
    stG G c ⊢ iprop((stG G c -∗ wpb c (p (grow (G c))) Q) -∗ wpb c (.op (.load gM grect.toLoadRect hl) p) Q) :=
  load_whole c gM grect fullShare (G c)

/-! ## The transfers of each axis -/

/-- What the transfers still take, and what the issued ones leave. -/
def sending (c : Dev nD) (i : ℕ) : sProp 𝕄 := iprop(rest (toSend c) i ∗ done (crdS c) i)

/-- The transfer of slab `k` along the first axis. -/
theorem send_x (c n : Dev nD) (k : Fin 8) (hn : n = xp c) (s r : DmaSem sig)
    (hs : s = ssem ⟨k.val, by omega⟩) (hr : r = rsem ⟨k.val, by omega⟩)
    {hsc : (flat (slab8 rxM k.val k.isLt) : Memref sig (Dev.tc n : Thread nD τ).2.kind .vmem S32x512 .bf16).view.ref.isScScratch = false}
    {hsrc : (flat (slab8 sxM k.val k.isLt)).view.WordExact} {hdst : (flat (slab8 rxM k.val k.isLt)).view.WordExact}
    {hsem : DmaTarget.Typed .vmem (.dma r) (.remote (Dev.tc n : Thread nD τ) (flat (slab8 rxM k.val k.isLt)) (.dma s) hsc)}
    {p : PUnit → Prog (TpuEff nD τ sig (Elt F) Λ₀ .tc) α} :
    iprop(ctx X G K ∗ sent (carried X G) c ⟨k.val, by omega⟩ ∗ owe c (3 + k.val) ∗ sending c k.val)
      ⊢ iprop(((owe c (3 + k.val + 1) ∗ sending c (k.val + 1)) -∗ wpb c (p ⟨⟩) Q)
          -∗ wpb c (.op (.enqueueDma (flat (slab8 sxM k.val k.isLt)) (.remote (Dev.tc n : Thread nD τ) (flat (slab8 rxM k.val k.isLt)) (.dma s) hsc) (.dma r) hsrc hdst hsem) p) Q) := by
  have hk := k.isLt
  have ho := ord_x k
  have hp : xp c = peer ⟨k.val, by omega⟩ c := (if_pos hk).symm
  have h := send (Q := Q) X G K c n ⟨k.val, by omega⟩ (by rw [ho, hn, hp]) (slab8 sxM k.val k.isLt) (slab8 rxM k.val k.isLt)
    (by rw [ho]; exact (srcB_x ⟨k.val, by omega⟩ hk).symm) (by rw [ho]; exact (dstB_x ⟨k.val, by omega⟩ hk).symm) s r (by rw [ho, hs]) (by rw [ho, hr])
    (hsc := hsc) (hsrc := hsrc) (hdst := hdst) (hsem := hsem) (k := p)
  rw [ho] at h
  exact h

/-- The transfer of slab `s` along the second axis. -/
theorem send_y (c n : Dev nD) (i : Fin 4) (hn : n = yn c) (s r : DmaSem sig)
    (hs : s = ssem ⟨8 + i.val, by omega⟩) (hr : r = rsem ⟨8 + i.val, by omega⟩)
    {hsc : (flat (slab4 ryM i.val i.isLt) : Memref sig (Dev.tc n : Thread nD τ).2.kind .vmem S32x512 .bf16).view.ref.isScScratch = false}
    {hsrc : (flat (slab4 oqM i.val i.isLt)).view.WordExact} {hdst : (flat (slab4 ryM i.val i.isLt)).view.WordExact}
    {hsem : DmaTarget.Typed .vmem (.dma r) (.remote (Dev.tc n : Thread nD τ) (flat (slab4 ryM i.val i.isLt)) (.dma s) hsc)}
    {p : PUnit → Prog (TpuEff nD τ sig (Elt F) Λ₀ .tc) α} :
    iprop(ctx X G K ∗ sent (carried X G) c ⟨8 + i.val, by omega⟩ ∗ owe c (3 + (8 + 2 * i.val)) ∗ sending c (8 + 2 * i.val))
      ⊢ iprop(((owe c (3 + (8 + 2 * i.val) + 1) ∗ sending c (8 + 2 * i.val + 1)) -∗ wpb c (p ⟨⟩) Q)
          -∗ wpb c (.op (.enqueueDma (flat (slab4 oqM i.val i.isLt)) (.remote (Dev.tc n : Thread nD τ) (flat (slab4 ryM i.val i.isLt)) (.dma s) hsc) (.dma r) hsrc hdst hsem) p) Q) := by
  have ho := ord_y i
  have hp := peer_y i c
  have h := send (Q := Q) X G K c n ⟨8 + 2 * i.val, by omega⟩ (by rw [ho, hn, hp]) (slab4 oqM i.val i.isLt) (slab4 ryM i.val i.isLt)
    (by rw [ho]; exact (srcB_y i).symm) (by rw [ho]; exact (dstB_y i).symm) s r (by rw [ho, hs]) (by rw [ho, hr])
    (hsc := hsc) (hsrc := hsrc) (hdst := hdst) (hsem := hsem) (k := p)
  rw [ho] at h
  exact h

/-- The transfer of slab `s` along the third axis. -/
theorem send_z (c n : Dev nD) (i : Fin 4) (hn : n = zn c) (s r : DmaSem sig)
    (hs : s = ssem ⟨12 + i.val, by omega⟩) (hr : r = rsem ⟨12 + i.val, by omega⟩)
    {hsc : (flat (slab4 rzM i.val i.isLt) : Memref sig (Dev.tc n : Thread nD τ).2.kind .vmem S32x512 .bf16).view.ref.isScScratch = false}
    {hsrc : (flat (slab4 oqM i.val i.isLt)).view.WordExact} {hdst : (flat (slab4 rzM i.val i.isLt)).view.WordExact}
    {hsem : DmaTarget.Typed .vmem (.dma r) (.remote (Dev.tc n : Thread nD τ) (flat (slab4 rzM i.val i.isLt)) (.dma s) hsc)}
    {p : PUnit → Prog (TpuEff nD τ sig (Elt F) Λ₀ .tc) α} :
    iprop(ctx X G K ∗ sent (carried X G) c ⟨12 + i.val, by omega⟩ ∗ owe c (3 + (8 + 2 * i.val + 1)) ∗ sending c (8 + 2 * i.val + 1))
      ⊢ iprop(((owe c (3 + (8 + 2 * i.val + 1) + 1) ∗ sending c (8 + 2 * i.val + 2)) -∗ wpb c (p ⟨⟩) Q)
          -∗ wpb c (.op (.enqueueDma (flat (slab4 oqM i.val i.isLt)) (.remote (Dev.tc n : Thread nD τ) (flat (slab4 rzM i.val i.isLt)) (.dma s) hsc) (.dma r) hsrc hdst hsem) p) Q) := by
  have ho := ord_z i
  have hp := peer_z i c
  have h := send (Q := Q) X G K c n ⟨8 + 2 * i.val + 1, by omega⟩ (by rw [ho, hn, hp]) (slab4 oqM i.val i.isLt) (slab4 rzM i.val i.isLt)
    (by rw [ho]; exact (srcB_z i).symm) (by rw [ho]; exact (dstB_z i).symm) s r (by rw [ho, hs]) (by rw [ho, hr])
    (hsc := hsc) (hsrc := hsrc) (hdst := hdst) (hsem := hsem) (k := p)
  rw [ho] at h
  exact h

/-! ## The body -/

/-- What the body starts with, -/
def bodyIn (c : Dev nD) : sProp 𝕄 :=
  iprop(owe c 0 ∗ (toSignal c 0 ∗ toSignal c 1 ∗ toSignal c 2) ∗ cred (tallyAt (barCell c) () 3) ∗ atPos ER (barCell c) 0 ∅ 0
    ∗ bigSep Finset.univ (tokS c) ∗ rest (toRecv c) 0 ∗ bigSep Finset.univ (atS c) ∗ rest (free8 c) 0 ∗ rest (free4 c) 0
    ∗ stP X c ∗ stG G c ∗ filled X G c 0)
/-- and what it ends with. -/
def bodyOut (c : Dev nD) : sProp 𝕄 :=
  iprop(owe c 19 ∗ atPos ER (barCell c) 1 ∅ 0 ∗ done (recv X G c) 16 ∗ done (waited X G c) 16 ∗ stP X c ∗ stG G c ∗ filled X G c 16)

set_option maxHeartbeats 4000000 in
/-- The body, from what it starts with to what it ends with. -/
theorem body_run (c : Dev nD) (Q : PUnit → sProp 𝕄) :
    iprop(ctx X G K ∗ bodyIn X G c)
      ⊢ iprop((bodyOut X G c -∗ |={Set.univ}=> Q ⟨⟩)
          -∗ wpb c (cc0_body pM (Memref.isWhole_whole _) gM (Memref.isWhole_whole _) oM (Memref.isWhole_whole _) sxM (Memref.isWhole_whole _) rxM (Memref.isWhole_whole _)
            oqM (Memref.isWhole_whole _) ryM (Memref.isWhole_whole _) rzM (Memref.isWhole_whole _) cc0_scratch5 cc0_scratch6 cc0_scratch7 cc0_scratch8 cc0_scratch9 cc0_scratch10) Q) := by
  simp only [cc0_body_eq_skeleton]; unfold cc0_body_skel
  simp only [k0_part30_eq_skeleton]; unfold k0_part30_skel
  simp only [k0_part1_eq_skeleton]; unfold k0_part1_skel
  simp only [k0_part2_eq_skeleton]; unfold k0_part2_skel
  simp only [semSignalWord, semWaitWord, Prog.lift, Prog.bind_op, Prog.bind_ret, Prog.pure_eq_ret, Prog.bind_assoc, wp_deviceId]
  unfold bodyIn
  iintro ⟨#Hctx, HO, ⟨Hs0, Hs1, Hs2⟩, Hcb, Hab, Htok, Hrecv, HatS, Hf8, Hf4, HP, HG, Hout⟩ Hk
  iapply (signal X G K c _ 0 (Fin.ext ((k0_dev1_eq c).trans (xp_val c)) : (⟨k0_dev1 c, k0_dev1_lt c⟩ : Dev nD) = nb 0 c) _ rfl) $$ [HO Hs0]
  · iframe Hctx HO Hs0
  iintro HO
  iapply (signal X G K c _ 1 (Fin.ext ((k0_dev2_eq c).trans (yn_val c)) : (⟨k0_dev2 c, k0_dev2_lt c⟩ : Dev nD) = nb 1 c) _ rfl) $$ [HO Hs1]
  · iframe Hctx HO Hs1
  iintro HO
  iapply (signal X G K c _ 2 (Fin.ext ((k0_dev3_eq c).trans (zn_val c)) : (⟨k0_dev3 c, k0_dev3_lt c⟩ : Dev nD) = nb 2 c) _ rfl) $$ [HO Hs2]
  · iframe Hctx HO Hs2
  iintro HO
  iapply (fill X G c 0 (by decide) _ _ (off1_row c 0) k0_pay1 rfl) $$ [HP Hf8]
  · iframe HP Hf8
  iintro ⟨HP, Hf8, Hx⟩
  iapply (wait_bar X G K c) $$ [HO Hcb Hab Htok]
  · iframe Hctx HO Hcb Hab Htok
  iintro ⟨HO, Hab, Hsend⟩
  ihave Hsend : sending c 0 $$ [Hsend]
  · unfold sending; rw [done_zero]; iframe Hsend
  simp only [k0_part3_eq_skeleton]; unfold k0_part3_skel
  simp only [Prog.lift, Prog.bind_op, Prog.bind_ret, Prog.pure_eq_ret, Prog.bind_assoc]
  iapply (send_x X G K c _ 0 (Fin.ext ((k0_dev4_eq c).trans (xp_val c)) : (⟨k0_dev4 c, k0_dev4_lt c⟩ : Dev nD) = xp c) _ _ rfl rfl) $$ [Hx HO Hsend]
  · iframe Hctx Hx HO Hsend
  iintro ⟨HO, Hsend⟩
  iapply (fill X G c 1 (by decide) _ _ (off1_row c 1) k0_pay2 rfl) $$ [HP Hf8]
  · iframe HP Hf8
  iintro ⟨HP, Hf8, Hx⟩
  iapply (send_x X G K c _ 1 (Fin.ext ((k0_dev5_eq c).trans (xp_val c)) : (⟨k0_dev5 c, k0_dev5_lt c⟩ : Dev nD) = xp c) _ _ rfl rfl) $$ [Hx HO Hsend]
  · iframe Hctx Hx HO Hsend
  iintro ⟨HO, Hsend⟩
  simp only [k0_part4_eq_skeleton]; unfold k0_part4_skel
  simp only [Prog.lift, Prog.bind_op, Prog.bind_ret, Prog.pure_eq_ret, Prog.bind_assoc]
  iapply (fill X G c 2 (by decide) _ _ (off1_row c 2) k0_pay3 rfl) $$ [HP Hf8]
  · iframe HP Hf8
  iintro ⟨HP, Hf8, Hx⟩
  iapply (send_x X G K c _ 2 (Fin.ext ((k0_dev6_eq c).trans (xp_val c)) : (⟨k0_dev6 c, k0_dev6_lt c⟩ : Dev nD) = xp c) _ _ rfl rfl) $$ [Hx HO Hsend]
  · iframe Hctx Hx HO Hsend
  iintro ⟨HO, Hsend⟩
  iapply (fill X G c 3 (by decide) _ _ (off1_row c 3) k0_pay4 rfl) $$ [HP Hf8]
  · iframe HP Hf8
  iintro ⟨HP, Hf8, Hx⟩
  simp only [k0_part5_eq_skeleton]; unfold k0_part5_skel
  simp only [Prog.lift, Prog.bind_op, Prog.bind_ret, Prog.pure_eq_ret, Prog.bind_assoc]
  iapply (send_x X G K c _ 3 (Fin.ext ((k0_dev7_eq c).trans (xp_val c)) : (⟨k0_dev7 c, k0_dev7_lt c⟩ : Dev nD) = xp c) _ _ rfl rfl) $$ [Hx HO Hsend]
  · iframe Hctx Hx HO Hsend
  iintro ⟨HO, Hsend⟩
  iapply (fill X G c 4 (by decide) _ _ (off2_row c 0) k0_pay5 rfl) $$ [HP Hf8]
  · iframe HP Hf8
  iintro ⟨HP, Hf8, Hx⟩
  simp only [k0_part6_eq_skeleton]; unfold k0_part6_skel
  simp only [Prog.lift, Prog.bind_op, Prog.bind_ret, Prog.pure_eq_ret, Prog.bind_assoc]
  iapply (send_x X G K c _ 4 (Fin.ext ((k0_dev8_eq c).trans (xp_val c)) : (⟨k0_dev8 c, k0_dev8_lt c⟩ : Dev nD) = xp c) _ _ rfl rfl) $$ [Hx HO Hsend]
  · iframe Hctx Hx HO Hsend
  iintro ⟨HO, Hsend⟩
  iapply (fill X G c 5 (by decide) _ _ (off2_row c 1) k0_pay6 rfl) $$ [HP Hf8]
  · iframe HP Hf8
  iintro ⟨HP, Hf8, Hx⟩
  iapply (send_x X G K c _ 5 (Fin.ext ((k0_dev9_eq c).trans (xp_val c)) : (⟨k0_dev9 c, k0_dev9_lt c⟩ : Dev nD) = xp c) _ _ rfl rfl) $$ [Hx HO Hsend]
  · iframe Hctx Hx HO Hsend
  iintro ⟨HO, Hsend⟩
  simp only [k0_part7_eq_skeleton]; unfold k0_part7_skel
  simp only [Prog.lift, Prog.bind_op, Prog.bind_ret, Prog.pure_eq_ret, Prog.bind_assoc]
  iapply (fill X G c 6 (by decide) _ _ (off2_row c 2) k0_pay7 rfl) $$ [HP Hf8]
  · iframe HP Hf8
  iintro ⟨HP, Hf8, Hx⟩
  iapply (send_x X G K c _ 6 (Fin.ext ((k0_dev10_eq c).trans (xp_val c)) : (⟨k0_dev10 c, k0_dev10_lt c⟩ : Dev nD) = xp c) _ _ rfl rfl) $$ [Hx HO Hsend]
  · iframe Hctx Hx HO Hsend
  iintro ⟨HO, Hsend⟩
  iapply (fill X G c 7 (by decide) _ _ (off2_row c 3) k0_pay8 rfl) $$ [HP Hf8]
  · iframe HP Hf8
  iintro ⟨HP, Hf8, Hx⟩
  simp only [k0_part8_eq_skeleton]; unfold k0_part8_skel
  simp only [k0_part9_eq_skeleton]; unfold k0_part9_skel
  simp only [Prog.lift, Prog.bind_op, Prog.bind_ret, Prog.pure_eq_ret, Prog.bind_assoc]
  iapply (send_x X G K c _ 7 (Fin.ext ((k0_dev11_eq c).trans (xp_val c)) : (⟨k0_dev11 c, k0_dev11_lt c⟩ : Dev nD) = xp c) _ _ rfl rfl) $$ [Hx HO Hsend]
  · iframe Hctx Hx HO Hsend
  iintro ⟨HO, Hsend⟩
  iapply (read_g G c) $$ HG
  iintro HG
  ihave Hgot : done (recv X G c) 0 $$ []
  · rw [done_zero]; iempintro
  iapply (finish X G K c 0 (by decide) 11 (.inl (by decide)) _ rfl (credit _) _ _ (off3_row c 0) _ _ (off4_row c 0)
    (fun v w => k0_pay11 (k0_pay9 (grow (G c))) (k0_pay10 v) w) rfl) $$ [HO Hrecv Hgot HP Hout]
  · iframe Hctx HO Hrecv Hgot HP Hout
  iintro ⟨HO, Hrecv, Hgot, HP, Hout⟩
  iapply (pass X G c 0 (k0_pay12 (k0_pay9 (grow (G c))) (k0_pay10 (xslab X (xp c) 0)) (psl (X c) (kblk c 0))) rfl) $$ [Hf4]
  · iexact Hf4
  iintro ⟨Hf4, Hy, Hz⟩
  simp only [k0_part10_eq_skeleton]; unfold k0_part10_skel
  simp only [k0_part11_eq_skeleton]; unfold k0_part11_skel
  simp only [Prog.lift, Prog.bind_op, Prog.bind_ret, Prog.pure_eq_ret, Prog.bind_assoc]
  iapply (send_y X G K c _ 0 (Fin.ext ((k0_dev12_eq c).trans (yn_val c)) : (⟨k0_dev12 c, k0_dev12_lt c⟩ : Dev nD) = yn c) _ _ rfl rfl) $$ [Hy HO Hsend]
  · iframe Hctx Hy HO Hsend
  iintro ⟨HO, Hsend⟩
  iapply (send_z X G K c _ 0 (Fin.ext ((k0_dev13_eq c).trans (zn_val c)) : (⟨k0_dev13 c, k0_dev13_lt c⟩ : Dev nD) = zn c) _ _ rfl rfl) $$ [Hz HO Hsend]
  · iframe Hctx Hz HO Hsend
  iintro ⟨HO, Hsend⟩
  iapply (finish X G K c 1 (by decide) 13 (.inl (by decide)) _ rfl (credit _) _ _ (off3_row c 1) _ _ (off4_row c 1)
    (fun v w => k0_pay13 (k0_pay9 (grow (G c))) v w) rfl) $$ [HO Hrecv Hgot HP Hout]
  · iframe Hctx HO Hrecv Hgot HP Hout
  iintro ⟨HO, Hrecv, Hgot, HP, Hout⟩
  iapply (pass X G c 1 (k0_pay14 (k0_pay9 (grow (G c))) (xslab X (xp c) 1) (psl (X c) (kblk c 1))) rfl) $$ [Hf4]
  · iexact Hf4
  iintro ⟨Hf4, Hy, Hz⟩
  simp only [k0_part12_eq_skeleton]; unfold k0_part12_skel
  simp only [Prog.lift, Prog.bind_op, Prog.bind_ret, Prog.pure_eq_ret, Prog.bind_assoc]
  iapply (send_y X G K c _ 1 (Fin.ext ((k0_dev14_eq c).trans (yn_val c)) : (⟨k0_dev14 c, k0_dev14_lt c⟩ : Dev nD) = yn c) _ _ rfl rfl) $$ [Hy HO Hsend]
  · iframe Hctx Hy HO Hsend
  iintro ⟨HO, Hsend⟩
  iapply (send_z X G K c _ 1 (Fin.ext ((k0_dev15_eq c).trans (zn_val c)) : (⟨k0_dev15 c, k0_dev15_lt c⟩ : Dev nD) = zn c) _ _ rfl rfl) $$ [Hz HO Hsend]
  · iframe Hctx Hz HO Hsend
  iintro ⟨HO, Hsend⟩
  simp only [k0_part13_eq_skeleton]; unfold k0_part13_skel
  simp only [Prog.lift, Prog.bind_op, Prog.bind_ret, Prog.pure_eq_ret, Prog.bind_assoc]
  iapply (finish X G K c 2 (by decide) 15 (.inl (by decide)) _ rfl (credit _) _ _ (off3_row c 2) _ _ (off4_row c 2)
    (fun v w => k0_pay15 (k0_pay9 (grow (G c))) v w) rfl) $$ [HO Hrecv Hgot HP Hout]
  · iframe Hctx HO Hrecv Hgot HP Hout
  iintro ⟨HO, Hrecv, Hgot, HP, Hout⟩
  iapply (pass X G c 2 (k0_pay16 (k0_pay9 (grow (G c))) (xslab X (xp c) 2) (psl (X c) (kblk c 2))) rfl) $$ [Hf4]
  · iexact Hf4
  iintro ⟨Hf4, Hy, Hz⟩
  simp only [k0_part14_eq_skeleton]; unfold k0_part14_skel
  simp only [Prog.lift, Prog.bind_op, Prog.bind_ret, Prog.pure_eq_ret, Prog.bind_assoc]
  iapply (send_y X G K c _ 2 (Fin.ext ((k0_dev16_eq c).trans (yn_val c)) : (⟨k0_dev16 c, k0_dev16_lt c⟩ : Dev nD) = yn c) _ _ rfl rfl) $$ [Hy HO Hsend]
  · iframe Hctx Hy HO Hsend
  iintro ⟨HO, Hsend⟩
  iapply (send_z X G K c _ 2 (Fin.ext ((k0_dev17_eq c).trans (zn_val c)) : (⟨k0_dev17 c, k0_dev17_lt c⟩ : Dev nD) = zn c) _ _ rfl rfl) $$ [Hz HO Hsend]
  · iframe Hctx Hz HO Hsend
  iintro ⟨HO, Hsend⟩
  simp only [k0_part15_eq_skeleton]; unfold k0_part15_skel
  simp only [k0_part16_eq_skeleton]; unfold k0_part16_skel
  simp only [Prog.lift, Prog.bind_op, Prog.bind_ret, Prog.pure_eq_ret, Prog.bind_assoc]
  iapply (finish X G K c 3 (by decide) 17 (.inl (by decide)) _ rfl (credit _) _ _ (off3_row c 3) _ _ (off4_row c 3)
    (fun v w => k0_pay17 (k0_pay9 (grow (G c))) v w) rfl) $$ [HO Hrecv Hgot HP Hout]
  · iframe Hctx HO Hrecv Hgot HP Hout
  iintro ⟨HO, Hrecv, Hgot, HP, Hout⟩
  iapply (pass X G c 3 (k0_pay19 (k0_pay18 (k0_pay9 (grow (G c))) (xslab X (xp c) 3) (psl (X c) (kblk c 3)))) rfl) $$ [Hf4]
  · iexact Hf4
  iintro ⟨Hf4, Hy, Hz⟩
  iapply (send_y X G K c _ 3 (Fin.ext ((k0_dev18_eq c).trans (yn_val c)) : (⟨k0_dev18 c, k0_dev18_lt c⟩ : Dev nD) = yn c) _ _ rfl rfl) $$ [Hy HO Hsend]
  · iframe Hctx Hy HO Hsend
  iintro ⟨HO, Hsend⟩
  iapply (send_z X G K c _ 3 (Fin.ext ((k0_dev19_eq c).trans (zn_val c)) : (⟨k0_dev19 c, k0_dev19_lt c⟩ : Dev nD) = zn c) _ _ rfl rfl) $$ [Hz HO Hsend]
  · iframe Hctx Hz HO Hsend
  iintro ⟨HO, Hsend⟩
  simp only [k0_part17_eq_skeleton]; unfold k0_part17_skel
  simp only [k0_part18_eq_skeleton]; unfold k0_part18_skel
  simp only [Prog.lift, Prog.bind_op, Prog.bind_ret, Prog.pure_eq_ret, Prog.bind_assoc]
  iapply (finish X G K c 4 (by decide) 19 (.inr rfl) _ rfl (credit _) _ _ (off5_row c 0) _ _ (off6_row c 0)
    (fun v w => k0_pay20 (k0_pay9 (grow (G c))) v w) rfl) $$ [HO Hrecv Hgot HP Hout]
  · iframe Hctx HO Hrecv Hgot HP Hout
  iintro ⟨HO, Hrecv, Hgot, HP, Hout⟩
  simp only [k0_part19_eq_skeleton]; unfold k0_part19_skel
  simp only [Prog.lift, Prog.bind_op, Prog.bind_ret, Prog.pure_eq_ret, Prog.bind_assoc]
  iapply (finish X G K c 5 (by decide) 19 (.inr rfl) _ rfl (credit _) _ _ (off5_row c 1) _ _ (off6_row c 1)
    (fun v w => k0_pay23 (k0_pay9 (grow (G c))) (k0_pay21 v w) (k0_pay22 v w)) rfl) $$ [HO Hrecv Hgot HP Hout]
  · iframe Hctx HO Hrecv Hgot HP Hout
  iintro ⟨HO, Hrecv, Hgot, HP, Hout⟩
  simp only [k0_part20_eq_skeleton]; unfold k0_part20_skel
  simp only [Prog.lift, Prog.bind_op, Prog.bind_ret, Prog.pure_eq_ret, Prog.bind_assoc]
  iapply (finish X G K c 6 (by decide) 19 (.inr rfl) _ rfl (credit _) _ _ (off5_row c 2) _ _ (off6_row c 2)
    (fun v w => k0_pay26 (k0_pay9 (grow (G c))) (k0_pay24 v w) (k0_pay25 v w)) rfl) $$ [HO Hrecv Hgot HP Hout]
  · iframe Hctx HO Hrecv Hgot HP Hout
  iintro ⟨HO, Hrecv, Hgot, HP, Hout⟩
  simp only [k0_part21_eq_skeleton]; unfold k0_part21_skel
  simp only [Prog.lift, Prog.bind_op, Prog.bind_ret, Prog.pure_eq_ret, Prog.bind_assoc]
  iapply (finish X G K c 7 (by decide) 19 (.inr rfl) _ rfl (credit _) _ _ (off5_row c 3) _ _ (off6_row c 3)
    (fun v w => k0_pay28 (k0_pay9 (grow (G c))) (k0_pay27 v) w) rfl) $$ [HO Hrecv Hgot HP Hout]
  · iframe Hctx HO Hrecv Hgot HP Hout
  iintro ⟨HO, Hrecv, Hgot, HP, Hout⟩
  simp only [k0_part22_eq_skeleton]; unfold k0_part22_skel
  simp only [Prog.lift, Prog.bind_op, Prog.bind_ret, Prog.pure_eq_ret, Prog.bind_assoc]
  iapply (face X G K c 8 (by decide) ryM 0 (by decide) (dstB_y 0).symm _ rfl (credit _) _ _ (off7_row c 0) k0_pay29 rfl) $$ [HO Hrecv Hgot Hout]
  · iframe Hctx HO Hrecv Hgot Hout
  iintro ⟨HO, Hrecv, Hgot, Hout⟩
  iapply (face X G K c 9 (by decide) ryM 1 (by decide) (dstB_y 1).symm _ rfl (credit _) _ _ (off7_row c 1) k0_pay30 rfl) $$ [HO Hrecv Hgot Hout]
  · iframe Hctx HO Hrecv Hgot Hout
  iintro ⟨HO, Hrecv, Hgot, Hout⟩
  simp only [k0_part23_eq_skeleton]; unfold k0_part23_skel
  simp only [k0_part24_eq_skeleton]; unfold k0_part24_skel
  simp only [Prog.lift, Prog.bind_op, Prog.bind_ret, Prog.pure_eq_ret, Prog.bind_assoc]
  iapply (face X G K c 10 (by decide) ryM 2 (by decide) (dstB_y 2).symm _ rfl (credit _) _ _ (off7_row c 2) k0_pay31 rfl) $$ [HO Hrecv Hgot Hout]
  · iframe Hctx HO Hrecv Hgot Hout
  iintro ⟨HO, Hrecv, Hgot, Hout⟩
  iapply (face X G K c 11 (by decide) ryM 3 (by decide) (dstB_y 3).symm _ rfl (credit _) _ _ (off7_row c 3) k0_pay32 rfl) $$ [HO Hrecv Hgot Hout]
  · iframe Hctx HO Hrecv Hgot Hout
  iintro ⟨HO, Hrecv, Hgot, Hout⟩
  iapply (face X G K c 12 (by decide) rzM 0 (by decide) (dstB_z 0).symm _ rfl (credit _) _ _ (off8_row c 0) k0_pay33 rfl) $$ [HO Hrecv Hgot Hout]
  · iframe Hctx HO Hrecv Hgot Hout
  iintro ⟨HO, Hrecv, Hgot, Hout⟩
  simp only [k0_part25_eq_skeleton]; unfold k0_part25_skel
  simp only [k0_part26_eq_skeleton]; unfold k0_part26_skel
  simp only [Prog.lift, Prog.bind_op, Prog.bind_ret, Prog.pure_eq_ret, Prog.bind_assoc]
  iapply (face X G K c 13 (by decide) rzM 1 (by decide) (dstB_z 1).symm _ rfl (credit _) _ _ (off8_row c 1) k0_pay34 rfl) $$ [HO Hrecv Hgot Hout]
  · iframe Hctx HO Hrecv Hgot Hout
  iintro ⟨HO, Hrecv, Hgot, Hout⟩
  iapply (face X G K c 14 (by decide) rzM 2 (by decide) (dstB_z 2).symm _ rfl (credit _) _ _ (off8_row c 2) k0_pay35 rfl) $$ [HO Hrecv Hgot Hout]
  · iframe Hctx HO Hrecv Hgot Hout
  iintro ⟨HO, Hrecv, Hgot, Hout⟩
  iapply (face X G K c 15 (by decide) rzM 3 (by decide) (dstB_z 3).symm _ rfl (credit _) _ _ (off8_row c 3) k0_pay36 rfl) $$ [HO Hrecv Hgot Hout]
  · iframe Hctx HO Hrecv Hgot Hout
  iintro ⟨HO, Hrecv, Hgot, Hout⟩
  ihave Hwait : rest (toWait c) 0 $$ [Hsend HatS]
  · unfold sending toWait; rw [rest_zero, BI.bigSep_sep']
    icases Hsend with ⟨-, Hsend⟩
    rw [← done_all (crdS c)]
    iframe Hsend HatS
  ihave Hback : done (waited X G c) 0 $$ []
  · rw [done_zero]; iempintro
  iapply (wait_sent X G K c 0 _ rfl (credit _)) $$ [HO Hwait Hback]
  · iframe Hctx HO Hwait Hback
  iintro ⟨HO, Hwait, Hback⟩
  simp only [k0_part27_eq_skeleton]; unfold k0_part27_skel
  simp only [Prog.lift, Prog.bind_op, Prog.bind_ret, Prog.pure_eq_ret, Prog.bind_assoc]
  iapply (wait_sent X G K c 1 _ rfl (credit _)) $$ [HO Hwait Hback]
  · iframe Hctx HO Hwait Hback
  iintro ⟨HO, Hwait, Hback⟩
  iapply (wait_sent X G K c 2 _ rfl (credit _)) $$ [HO Hwait Hback]
  · iframe Hctx HO Hwait Hback
  iintro ⟨HO, Hwait, Hback⟩
  iapply (wait_sent X G K c 3 _ rfl (credit _)) $$ [HO Hwait Hback]
  · iframe Hctx HO Hwait Hback
  iintro ⟨HO, Hwait, Hback⟩
  iapply (wait_sent X G K c 4 _ rfl (credit _)) $$ [HO Hwait Hback]
  · iframe Hctx HO Hwait Hback
  iintro ⟨HO, Hwait, Hback⟩
  simp only [k0_part28_eq_skeleton]; unfold k0_part28_skel
  simp only [Prog.lift, Prog.bind_op, Prog.bind_ret, Prog.pure_eq_ret, Prog.bind_assoc]
  iapply (wait_sent X G K c 5 _ rfl (credit _)) $$ [HO Hwait Hback]
  · iframe Hctx HO Hwait Hback
  iintro ⟨HO, Hwait, Hback⟩
  iapply (wait_sent X G K c 6 _ rfl (credit _)) $$ [HO Hwait Hback]
  · iframe Hctx HO Hwait Hback
  iintro ⟨HO, Hwait, Hback⟩
  iapply (wait_sent X G K c 7 _ rfl (credit _)) $$ [HO Hwait Hback]
  · iframe Hctx HO Hwait Hback
  iintro ⟨HO, Hwait, Hback⟩
  simp only [k0_part29_eq_skeleton]; unfold k0_part29_skel
  simp only [Prog.lift, Prog.bind_op, Prog.bind_ret, Prog.pure_eq_ret, Prog.bind_assoc]
  iapply (wait_sent X G K c 8 _ rfl (credit _)) $$ [HO Hwait Hback]
  · iframe Hctx HO Hwait Hback
  iintro ⟨HO, Hwait, Hback⟩
  iapply (wait_sent X G K c 9 _ rfl (credit _)) $$ [HO Hwait Hback]
  · iframe Hctx HO Hwait Hback
  iintro ⟨HO, Hwait, Hback⟩
  iapply (wait_sent X G K c 10 _ rfl (credit _)) $$ [HO Hwait Hback]
  · iframe Hctx HO Hwait Hback
  iintro ⟨HO, Hwait, Hback⟩
  iapply (wait_sent X G K c 11 _ rfl (credit _)) $$ [HO Hwait Hback]
  · iframe Hctx HO Hwait Hback
  iintro ⟨HO, Hwait, Hback⟩
  iapply (wait_sent X G K c 12 _ rfl (credit _)) $$ [HO Hwait Hback]
  · iframe Hctx HO Hwait Hback
  iintro ⟨HO, Hwait, Hback⟩
  iapply (wait_sent X G K c 13 _ rfl (credit _)) $$ [HO Hwait Hback]
  · iframe Hctx HO Hwait Hback
  iintro ⟨HO, Hwait, Hback⟩
  iapply (wait_sent X G K c 14 _ rfl (credit _)) $$ [HO Hwait Hback]
  · iframe Hctx HO Hwait Hback
  iintro ⟨HO, Hwait, Hback⟩
  iapply (wait_sent X G K c 15 _ rfl (credit _)) $$ [HO Hwait Hback]
  · iframe Hctx HO Hwait Hback
  iintro ⟨HO, Hwait, Hback⟩
  unfold wpb; rw [wp_ret]
  iapply Hk
  unfold bodyOut
  iframe HO Hab Hgot Hback HP HG Hout

end Cert.KernelIdeal.Run

end
-- ==== Proof.Slabs.lean ====
/- The scratch buffers and their slabs: a whole buffer at some contents is its slabs, each at some contents, and back; the
   sixteen links in their three groups; and what a device gets back at the end of the body, as whole buffers again. -/
module

public import proofs.«01_k».proof.Proof.Body

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem fam_mono {I : Type} [Fintype I] {Φ Ψ : I → sProp 𝕄} (h : ∀ i, Φ i ⊢ Ψ i) : bigSep Finset.univ Φ ⊢ bigSep Finset.univ Ψ :=
  BI.bigSep_mono fun i _ => h i
theorem eq_of_both {P Q : sProp 𝕄} (h₁ : P ⊢ Q) (h₂ : Q ⊢ P) : P = Q := BI.equiv_iff.mp ⟨h₁, h₂⟩

/-! ## A buffer and the slabs it is cut into -/

/-- A buffer at some contents. -/
abbrev some' (c : Dev nD) {s : Shape} {e : EltTy} (m : Memref sig .tc .vmem s e) : sProp 𝕄 := iprop(∃ X, owns' c m fullShare X)

section Rects

variable {T : Type} [Fintype T] [DecidableEq T] {s : Shape} {e : EltTy} (c : Dev nD) (m : Memref sig .tc .vmem s e)
  (r : T → Rect s) (hr : ∀ t a, (r t).stride a = 1) (hd : ∀ t t', t ≠ t' → Disjoint (r t).set (r t').set)
  (hcov : (Finset.univ : Finset T).biUnion (fun t => (r t).set) = Finset.univ)
include hd hcov

theorem some_split : some' (F := F) c m ⊢ bigSep Finset.univ fun t => some' c (m.slice (r t) (hr t)) := by
  iintro ⟨%X, H⟩
  ihave H := (owns_rects (c : Thread nD τ) m fullShare r hr hd hcov X) $$ H
  iapply (fam_mono (Φ := fun t => owns' (F := F) c (m.slice (r t) (hr t)) fullShare fun j => X ((r t).emb j))
    (Ψ := fun t => some' (F := F) c (m.slice (r t) (hr t))) fun t => by
      iintro H; iexists (fun j => X ((r t).emb j)); iexact H)
  iexact H

omit [Fintype T] hcov in
/-- Contents given rectangle by rectangle are those of one buffer. -/
theorem glue [∀ e, Nonempty (Elt F e)] (Y : (t : T) → (r t).shape.Idx → Elt F e) :
    ∃ X : s.Idx → Elt F e, ∀ t, (fun j => X ((r t).emb j)) = Y t := by
  classical
  refine ⟨fun i => if h : ∃ p : Σ t, (r t).shape.Idx, (r p.1).emb p.2 = i then Y h.choose.1 h.choose.2 else Classical.arbitrary _, fun t => ?_⟩
  funext j
  have h : ∃ p : Σ t, (r t).shape.Idx, (r p.1).emb p.2 = (r t).emb j := ⟨⟨t, j⟩, rfl⟩
  refine (dif_pos h).trans ?_
  have hc := h.choose_spec
  generalize h.choose = p at hc
  obtain ⟨t', j'⟩ := p
  have hmem : ∀ (t : T) (j : (r t).shape.Idx), (r t).emb j ∈ (r t).set := fun t j => by
    rw [← Rect.map_emb_univ]; exact Finset.mem_map_of_mem _ (Finset.mem_univ j)
  by_cases ht : t' = t
  · subst ht
    exact congrArg (Y t') ((r t').emb.injective hc)
  · exact absurd (hmem t j) (Finset.disjoint_left.mp (hd t' t ht) (by have := hmem t' j'; rw [show (r t').emb j' = (r t).emb j from hc] at this; exact this))

theorem some_join [∀ e, Nonempty (Elt F e)] : (bigSep Finset.univ fun t => some' c (m.slice (r t) (hr t))) ⊢ some' (F := F) c m := by
  iintro H
  ihave H := (bigSep_exists_pi (Finset.univ : Finset T) fun t (Y : (r t).shape.Idx → Elt F e) => owns' c (m.slice (r t) (hr t)) fullShare Y) $$ H
  icases H with ⟨%Y, H⟩
  obtain ⟨X, hX⟩ := glue r hd Y
  iexists X
  iapply (owns_of_rects (c : Thread nD τ) m fullShare r hr hd hcov X)
  iapply (Entails.of_eq (bigSep_congr (s := (Finset.univ : Finset T)) fun t _ => show owns' (F := F) c (m.slice (r t) (hr t)) fullShare (Y t)
    = owns' c (m.slice (r t) (hr t)) fullShare (fun j => X ((r t).emb j)) by rw [hX t]))
  iexact H

end Rects

theorem apart8 (t t' : Fin 8) (h : t ≠ t') : Disjoint (rect8 t.val t.isLt).set (rect8 t'.val t'.isLt).set :=
  Rect.unit_disjoint (0 : Fin 3) (by
    have : t.val ≠ t'.val := fun e => h (Fin.ext e)
    show t.val + 1 ≤ t'.val ∨ t'.val + 1 ≤ t.val; omega)
theorem apart4 (t t' : Fin 4) (h : t ≠ t') : Disjoint (rect4 t.val t.isLt).set (rect4 t'.val t'.isLt).set :=
  Rect.unit_disjoint (0 : Fin 3) (by
    have : t.val ≠ t'.val := fun e => h (Fin.ext e)
    show t.val + 1 ≤ t'.val ∨ t'.val + 1 ≤ t.val; omega)
theorem cover8 : (Finset.univ : Finset (Fin 8)).biUnion (fun t => (rect8 t.val t.isLt).set) = Finset.univ := by
  refine Finset.eq_univ_iff_forall.mpr fun i => Finset.mem_biUnion.mpr ⟨i 0, Finset.mem_univ _, Rect.mem_set_unit.mpr fun a => ?_⟩
  fin_cases a
  · show (i 0).val ≤ (i 0).val ∧ (i 0).val < (i 0).val + 1; omega
  · have : (i 1).val < 32 := (i 1).isLt
    show 0 ≤ (i 1).val ∧ (i 1).val < 0 + 32; omega
  · have : (i 2).val < 512 := (i 2).isLt
    show 0 ≤ (i 2).val ∧ (i 2).val < 0 + 512; omega
theorem cover4 : (Finset.univ : Finset (Fin 4)).biUnion (fun t => (rect4 t.val t.isLt).set) = Finset.univ := by
  refine Finset.eq_univ_iff_forall.mpr fun i => Finset.mem_biUnion.mpr ⟨i 0, Finset.mem_univ _, Rect.mem_set_unit.mpr fun a => ?_⟩
  fin_cases a
  · show (i 0).val ≤ (i 0).val ∧ (i 0).val < (i 0).val + 1; omega
  · have : (i 1).val < 32 := (i 1).isLt
    show 0 ≤ (i 1).val ∧ (i 1).val < 0 + 32; omega
  · have : (i 2).val < 512 := (i 2).isLt
    show 0 ≤ (i 2).val ∧ (i 2).val < 0 + 512; omega

/-- A buffer of eight slabs (of four) at some contents is its slabs, each at some contents. -/
theorem split8 (c : Dev nD) (b : Memref sig .tc .vmem S8x32x512 .bf16) :
    some' (F := F) c b ⊢ bigSep Finset.univ fun k : Fin 8 => slot c (slab8 b k.val k.isLt) :=
  some_split c b (fun k : Fin 8 => rect8 k.val k.isLt) (fun _ _ => rfl) apart8 cover8
theorem split4 (c : Dev nD) (b : Memref sig .tc .vmem S4x32x512 .bf16) :
    some' (F := F) c b ⊢ bigSep Finset.univ fun k : Fin 4 => slot c (slab4 b k.val k.isLt) :=
  some_split c b (fun k : Fin 4 => rect4 k.val k.isLt) (fun _ _ => rfl) apart4 cover4
theorem join8 (c : Dev nD) (b : Memref sig .tc .vmem S8x32x512 .bf16) :
    (bigSep Finset.univ fun k : Fin 8 => slot c (slab8 b k.val k.isLt)) ⊢ some' (F := F) c b :=
  some_join c b (fun k : Fin 8 => rect8 k.val k.isLt) (fun _ _ => rfl) apart8 cover8
theorem join4 (c : Dev nD) (b : Memref sig .tc .vmem S4x32x512 .bf16) :
    (bigSep Finset.univ fun k : Fin 4 => slot c (slab4 b k.val k.isLt)) ⊢ some' (F := F) c b :=
  some_join c b (fun k : Fin 4 => rect4 k.val k.isLt) (fun _ _ => rfl) apart4 cover4

/-- A whole buffer at some contents, named by its location. -/
theorem some_whole (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  refine eq_of_both ?_ ?_
  · iintro ⟨%f, H⟩; iexists f; iapply (Entails.of_eq (owns_whole (c : Thread nD τ) b fullShare f).symm); iexact H
  · iintro ⟨%f, H⟩; iexists f; iapply (Entails.of_eq (owns_whole (c : Thread nD τ) b fullShare f)); iexact H

/-! ## The links in their three groups -/

/-- Eight links along the first axis, four along each of the others. -/
def linkEquiv : (Fin 8 ⊕ Fin 4) ⊕ Fin 4 ≃ Fin 16 := (Equiv.sumCongr finSumFinEquiv (Equiv.refl _)).trans finSumFinEquiv
theorem linkEquiv_x : ∀ k : Fin 8, linkEquiv (.inl (.inl k)) = ⟨k.val, by omega⟩ := by decide
theorem linkEquiv_y : ∀ k : Fin 4, linkEquiv (.inl (.inr k)) = ⟨8 + k.val, by omega⟩ := by decide
theorem linkEquiv_z : ∀ k : Fin 4, linkEquiv (.inr k) = ⟨12 + k.val, by omega⟩ := by decide

theorem links_eq (Φ : Fin 16 → sProp 𝕄) : bigSep Finset.univ Φ
    = iprop((bigSep Finset.univ fun k : Fin 8 => Φ ⟨k.val, by omega⟩) ∗ (bigSep Finset.univ fun k : Fin 4 => Φ ⟨8 + k.val, by omega⟩)
        ∗ (bigSep Finset.univ fun k : Fin 4 => Φ ⟨12 + k.val, by omega⟩)) := by
  rw [BI.bigSep_univ_equiv linkEquiv Φ, BI.bigSep_univ_sum, BI.bigSep_univ_sum]
  simp only [linkEquiv_x, linkEquiv_y, linkEquiv_z]
  exact eq_of_both Laws.sep_assoc.1 Laws.sep_assoc.2

/-- The three receive buffers at some contents are the sixteen places links land in. -/
theorem places_split (c : Dev nD) : iprop(some' (F := F) c rxM ∗ some' c ryM ∗ some' c rzM) ⊢ bigSep Finset.univ fun l : Fin 16 => slot c (dstB l) := by
  rw [links_eq]
  simp only [dstB_y, dstB_z]
  iintro ⟨Hx, Hy, Hz⟩
  isplitl [Hx]
  · ihave H := (split8 c rxM) $$ Hx
    iapply (fam_mono (Φ := fun k : Fin 8 => slot (F := F) c (slab8 rxM k.val k.isLt)) (Ψ := fun k : Fin 8 => slot (F := F) c (dstB ⟨k.val, by omega⟩)) fun k => by rw [dstB_x _ k.isLt])
    iexact H
  isplitl [Hy]
  · iapply (split4 c ryM); iexact Hy
  iapply (split4 c rzM); iexact Hz
theorem places_join (c : Dev nD) : (bigSep Finset.univ fun l : Fin 16 => slot c (dstB l)) ⊢ iprop(some' (F := F) c rxM ∗ some' c ryM ∗ some' c rzM) := by
  rw [links_eq]
  simp only [dstB_y, dstB_z]
  iintro ⟨Hx, Hy, Hz⟩
  isplitl [Hx]
  · iapply (join8 c rxM)
    iapply (fam_mono (Φ := fun k : Fin 8 => slot (F := F) c (dstB ⟨k.val, by omega⟩)) (Ψ := fun k : Fin 8 => slot (F := F) c (slab8 rxM k.val k.isLt)) fun k => by rw [dstB_x _ k.isLt])
    iexact Hx
  isplitl [Hy]
  · iapply (join4 c ryM); iexact Hy
  iapply (join4 c rzM); iexact Hz

variable (X : Dev nD → S1x1024x512.Idx → Elt F .bf16) (G : Dev nD → S1x512.Idx → Elt F .bf16)

/-- What has landed, its contents forgotten. -/
theorem recvd_slot (c : Dev nD) (l : Fin 16) : recvd (carried X G) c l ⊢ slot c (dstB l) := by
  unfold recvd slot; iintro H; iexists (carried X G (peer l c) l); iexact H

theorem carried_y (c : Dev nD) (s : Fin 4) : carried X G c ⟨8 + s.val, by omega⟩ = qslab X G c ⟨s.val, by omega⟩ := by
  unfold carried; rw [if_neg (by show ¬ 8 + s.val < 8; omega)]; congr 2; show (8 + s.val) % 4 = s.val; omega
theorem carried_z (c : Dev nD) (s : Fin 4) : carried X G c ⟨12 + s.val, by omega⟩ = qslab X G c ⟨s.val, by omega⟩ := by
  unfold carried; rw [if_neg (by show ¬ 12 + s.val < 8; omega)]; congr 2; show (12 + s.val) % 4 = s.val; omega

/-- The sources come back as the two send buffers, whole. -/
theorem sources_join (c : Dev nD) : (bigSep Finset.univ fun l : Fin 16 => sent (carried X G) c l) ⊢ iprop(some' (F := F) c sxM ∗ some' c oqM) := by
  rw [links_eq]
  iintro ⟨Hx, Hy, Hz⟩
  isplitl [Hx]
  · iapply (join8 c sxM)
    iapply (fam_mono (Φ := fun k : Fin 8 => sent (carried X G) c ⟨k.val, by omega⟩) (Ψ := fun k : Fin 8 => slot (F := F) c (slab8 sxM k.val k.isLt)) fun k => by
      unfold sent slot
      have h : shr ⟨k.val, by omega⟩ = fullShare := if_pos k.isLt
      rw [srcB_x _ k.isLt, h]
      iintro H; iexists _; iexact H)
    iexact Hx
  · iapply (join4 c oqM)
    iapply (fam_mono (Φ := fun k : Fin 4 => iprop(sent (carried X G) c ⟨8 + k.val, by omega⟩ ∗ sent (carried X G) c ⟨12 + k.val, by omega⟩))
        (Ψ := fun k : Fin 4 => slot (F := F) c (slab4 oqM k.val k.isLt)) fun k => by
      unfold sent slot
      have hy : shr ⟨8 + k.val, by omega⟩ = fullShare.left := by
        unfold shr; rw [if_neg (by show ¬ 8 + k.val < 8; omega), if_pos (by show 8 + k.val < 12; omega)]
      have hz : shr ⟨12 + k.val, by omega⟩ = fullShare.right := by
        unfold shr; rw [if_neg (by show ¬ 12 + k.val < 8; omega), if_neg (by show ¬ 12 + k.val < 12; omega)]
      rw [srcB_y, srcB_z, carried_y, carried_z, hy, hz]
      iintro H
      iexists (qslab X G c ⟨k.val, by omega⟩)
      iapply (owns_share (c : Thread nD τ) (slab4 oqM k.val k.isLt) (PosShare.mem_left_op_right fullShare) _).2
      iexact H)
    iapply (Entails.of_eq (bigSep_sep' Finset.univ (fun k : Fin 4 => sent (carried X G) c ⟨8 + k.val, by omega⟩) (fun k : Fin 4 => sent (carried X G) c ⟨12 + k.val, by omega⟩)).symm)
    iframe Hy Hz

end Cert.KernelIdeal.Run

end
-- ==== Proof.Region.lean ====
/- The region around the kernel's body: a device's cells opened before it, the body run from whole buffers to whole buffers,
   and every cell closed again at zero. -/
module

public import proofs.«01_k».proof.Proof.Slabs

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

attribute [local irreducible] srcB dstB

theorem osem_s (l : Fin 16) : osem (0, l) = .dma (ssem l) := if_pos rfl
theorem osem_r (l : Fin 16) : osem (1, l) = .dma (rsem l) := if_neg (by show ¬ (1 : Fin 2) = 0; decide)

/-- Two families over all of an index type as one of pairs. -/
theorem pairs {I : Type} [Fintype I] (Φ Ψ : I → sProp 𝕄) :
    (iprop(bigSep Finset.univ Φ ∗ bigSep Finset.univ Ψ) : sProp 𝕄) = bigSep Finset.univ fun i => iprop(Φ i ∗ Ψ i) := (bigSep_sep' _ _ _).symm

/-- A family over a device's own semaphores: the issuers' part and the receivers'. -/
theorem own_eq (Φ : SemLoc sig → sProp 𝕄) : (bigSep Finset.univ fun p : Fin 2 × Fin 16 => Φ (osem p))
    = iprop((bigSep Finset.univ fun l : Fin 16 => Φ (.dma (ssem l))) ∗ bigSep Finset.univ fun l : Fin 16 => Φ (.dma (rsem l))) := by
  rw [BI.bigSep_univ_prod, BI.bigSep_fin_two]
  simp only [osem_s, osem_r]
  rfl
/-- A family over the links, in the order the transfers take them. -/
theorem by_ord (Φ : Fin 16 → sProp 𝕄) : bigSep Finset.univ Φ = bigSep Finset.univ fun i => Φ (ord i) := BI.bigSep_univ_equiv ordEquiv Φ

variable (X : Dev nD → S1x1024x512.Idx → Elt F .bf16) (G : Dev nD → S1x512.Idx → Elt F .bf16) (K : GSem nD τ sig → ℕ)

/-- The invariants and the open barrier cells: what is known of the cells from launch. -/
def known : sProp 𝕄 :=
  iprop((bigSep Finset.univ fun c : Dev nD => cellInv ER (Rd X G) (K (barCell c)) (barCell c))
    ∗ (bigSep Finset.univ fun p : Dev nD × Fin 16 => cellInv ER (Rd X G) (K (sCell p.1 p.2)) (sCell p.1 p.2))
    ∗ (bigSep Finset.univ fun p : Dev nD × Fin 16 => cellInv ER (Rd X G) (K (rCell p.1 p.2)) (rCell p.1 p.2))
    ∗ (bigSep Finset.univ fun c : Dev nD => reached ER (barCell c) 0))
instance known_persistent : BI.Persistent (known X G K) := by unfold known; infer_instance
theorem known_ctx : iprop(known X G K ∗ levAts L lv) ⊢ ctx X G K := by
  unfold known ctx
  iintro ⟨⟨#H1, #H2, #H3, #H4⟩, #H5⟩
  iframe H1 H2 H3 H4 H5

/-- What a device starts with of the cells: its position on its barrier cell, the rights to open its own cells, and the
    tokens of the duties it pays. -/
def ghost (c : Dev nD) : sProp 𝕄 :=
  iprop(atPos ER (barCell c) 0 ∅ 0 ∗ (bigSep Finset.univ fun p : Fin 2 × Fin 16 => openTok ER ((c : Thread nD τ), osem p))
    ∗ (bigSep Finset.univ fun a : Fin 3 => dutyTok ER (barCell (nb a c)) 0 a)
    ∗ (bigSep Finset.univ fun l : Fin 16 => dutyTok ER (sCell c l) 0 0)
    ∗ (bigSep Finset.univ fun l : Fin 16 => dutyTok ER (rCell (peer l c) l) 0 0))
/-- The credits a device waits with. -/
def credits (c : Dev nD) : sProp 𝕄 :=
  iprop(cred (tallyAt (barCell c) () 3) ∗ bigSep Finset.univ fun l : Fin 16 => cred (tallyAt (rCell c l) () N))

/-- From launch to the region; inside it, its cells opened; after it. -/
def Tk (c : Dev nD) : sProp 𝕄 := iprop((∃ K, known X G K) ∗ ghost c ∗ credits c)
def Xk (c : Dev nD) : sProp 𝕄 :=
  iprop((∃ K, ctx X G K) ∗ atPos ER (barCell c) 0 ∅ 0 ∗ cred (tallyAt (barCell c) () 3)
    ∗ (bigSep Finset.univ fun a : Fin 3 => dutyTok ER (barCell (nb a c)) 0 a)
    ∗ bigSep Finset.univ (tokS c) ∗ bigSep Finset.univ (atS c) ∗ bigSep Finset.univ (toRecv c)
    ∗ bigSep Finset.univ fun l : Fin 16 => reached ER (rCell c l) 0)
def Yk (c : Dev nD) : sProp 𝕄 := semVal (barCell c) 0

/-! ## Opening and closing the cells -/

theorem ownSems_eq (c : Dev nD) : (Pipeline.ownSems0 osem c : sProp 𝕄) = bigSep Finset.univ fun p : Fin 2 × Fin 16 => semVal ((c : Thread nD τ), osem p) 0 := rfl

theorem open_one (c : Dev nD) (p : Fin 2 × Fin 16) :
    iprop(ctx X G K ∗ (openTok ER ((c : Thread nD τ), osem p) ∗ semVal ((c : Thread nD τ), osem p) 0))
      ⊢ |={Set.univ}=> iprop(atPos ER ((c : Thread nD τ), osem p) 0 ∅ 0 ∗ reached ER ((c : Thread nD τ), osem p) 0) := by
  have hI : ctx X G K ⊢ cellInv ER (Rd X G) (K ((c : Thread nD τ), osem p)) ((c : Thread nD τ), osem p) := by
    obtain ⟨a, l⟩ := p
    fin_cases a
    · show ctx X G K ⊢ cellInv ER (Rd X G) (K ((c : Thread nD τ), osem (0, l))) ((c : Thread nD τ), osem (0, l))
      rw [osem_s]; exact ctx_s X G K c l
    · show ctx X G K ⊢ cellInv ER (Rd X G) (K ((c : Thread nD τ), osem (1, l))) ((c : Thread nD τ), osem (1, l))
      rw [osem_r]; exact ctx_r X G K c l
  iintro ⟨#Hctx, Ho, Hs⟩
  iapply (Rounds.cell_open ER (Rd X G) (g := ((c : Thread nD τ), osem p)) (Set.mem_univ (K ((c : Thread nD τ), osem p))))
  isplitr; · iapply hI; iexact Hctx
  iframe Ho Hs

theorem hopen (c : Dev nD) : iprop(Tk X G c ∗ Pipeline.ownSems0 osem c ∗ levAts L lv) ⊢ (|={Set.univ}=> Xk X G c : sProp 𝕄) := by
  unfold Tk Xk ghost credits
  iintro ⟨⟨⟨%K, #Hkn⟩, ⟨Hab, Hop, Htb, Hts, Htr⟩, Hcb, Hcr⟩, Hsem, #Hlev⟩
  ihave #Hctx : ctx X G K $$ []
  · iapply (known_ctx X G K); isplitr; · iexact Hkn
    iexact Hlev
  ihave H := (bigSep_with_persistent (S := (Finset.univ : Finset (Fin 2 × Fin 16))) (R := ctx X G K) fun p _ => open_one X G K c p) $$ [Hop Hsem]
  · isplitr; · iexact Hctx
    iapply (Entails.of_eq (pairs (fun p : Fin 2 × Fin 16 => (openTok ER ((c : Thread nD τ), osem p) : sProp 𝕄)) fun p => semVal ((c : Thread nD τ), osem p) 0))
    iframe Hop
    iapply (Entails.of_eq (ownSems_eq c)); iexact Hsem
  imod (bigSep_fupd Finset.univ _) $$ H with H
  imodintro
  ihave H := (Entails.of_eq (own_eq fun s => (iprop(atPos ER ((c : Thread nD τ), s) 0 ∅ 0 ∗ reached ER ((c : Thread nD τ), s) 0) : sProp 𝕄))) $$ H
  icases H with ⟨Hs, Hr⟩
  ihave Hs := (Entails.of_eq (by_ord fun l => (iprop(atPos ER (sCell c l) 0 ∅ 0 ∗ reached ER (sCell c l) 0) : sProp 𝕄))) $$ Hs
  ihave Hs := (Entails.of_eq (pairs (fun i => (atPos ER (sCell c (ord i)) 0 ∅ 0 : sProp 𝕄)) fun i => reached ER (sCell c (ord i)) 0).symm) $$ Hs
  icases Hs with ⟨HaS, HrS⟩
  ihave Hr := (Entails.of_eq (pairs (fun l => (atPos ER (rCell c l) 0 ∅ 0 : sProp 𝕄)) fun l => reached ER (rCell c l) 0).symm) $$ Hr
  icases Hr with ⟨HaR, HrR⟩
  ihave Hts := (Entails.of_eq (by_ord fun l => (dutyTok ER (sCell c l) 0 0 : sProp 𝕄))) $$ Hts
  ihave Htr := (Entails.of_eq (by_ord fun l => (dutyTok ER (rCell (peer l c) l) 0 0 : sProp 𝕄))) $$ Htr
  isplitr; · iexists K; iexact Hctx
  iframe Hab Hcb Htb HrR
  isplitl [Hts HrS Htr]
  · iapply (Entails.of_eq (pairs (fun i => (dutyTok ER (sCell c (ord i)) 0 0 : sProp 𝕄)) fun i => iprop(reached ER (sCell c (ord i)) 0 ∗ dutyTok ER (rCell (peer (ord i) c) (ord i)) 0 0)))
    iframe Hts
    iapply (Entails.of_eq (pairs (fun i => (reached ER (sCell c (ord i)) 0 : sProp 𝕄)) fun i => dutyTok ER (rCell (peer (ord i) c) (ord i)) 0 0))
    iframe HrS Htr
  isplitl [HaS]; · iexact HaS
  iapply (Entails.of_eq (pairs (fun l => (cred (tallyAt (rCell c l) () N) : sProp 𝕄)) fun l => atPos ER (rCell c l) 0 ∅ 0))
  iframe Hcr HaR

theorem close_cell (κ : ℕ) (g : GSem nD τ sig) :
    iprop(cellInv ER (Rd X G) κ g ∗ atPos ER g 1 ∅ 0) ⊢ (|={Set.univ}=> semVal g 0 : sProp 𝕄) :=
  Rounds.cell_close ER (Rd X G) (R := 1) (Set.mem_univ κ) id fun r h => duties_later (carried X G) g r h

/-- Every cell of the device closed: its barrier semaphore and its own semaphores at zero. -/
theorem hclose (c : Dev nD) :
    iprop(ctx X G K ∗ atPos ER (barCell c) 1 ∅ 0 ∗ (bigSep Finset.univ fun i => atPos ER (sCell c (ord i)) 1 ∅ 0) ∗ bigSep Finset.univ fun l => atPos ER (rCell c l) 1 ∅ 0)
      ⊢ (|={Set.univ}=> iprop(Yk c ∗ Pipeline.ownSems0 osem c) : sProp 𝕄) := by
  unfold Yk
  iintro ⟨#Hctx, Hb, Hs, Hr⟩
  imod (close_cell X G (K (barCell c)) (barCell c)) $$ [Hb] with Hb
  · isplitr
    · ihave #H := (ctx_bar X G K c) $$ Hctx
      icases H with ⟨#H, -⟩; iexact H
    iexact Hb
  ihave Hs := (Entails.of_eq (by_ord fun l => (atPos ER (sCell c l) 1 ∅ 0 : sProp 𝕄)).symm) $$ Hs
  ihave Hs := (bigSep_with_persistent (S := (Finset.univ : Finset (Fin 16))) (R := ctx X G K) (Φ := fun l => (atPos ER (sCell c l) 1 ∅ 0 : sProp 𝕄))
    (Ψ := fun l => iprop(|={Set.univ}=> semVal (sCell c l) 0)) fun l _ => (sep_mono_left (ctx_s X G K c l)).trans (close_cell X G _ _)) $$ [Hs]
  · isplitr; · iexact Hctx
    iexact Hs
  imod (bigSep_fupd Finset.univ _) $$ Hs with Hs
  ihave Hr := (bigSep_with_persistent (S := (Finset.univ : Finset (Fin 16))) (R := ctx X G K) (Φ := fun l => (atPos ER (rCell c l) 1 ∅ 0 : sProp 𝕄))
    (Ψ := fun l => iprop(|={Set.univ}=> semVal (rCell c l) 0)) fun l _ => (sep_mono_left (ctx_r X G K c l)).trans (close_cell X G _ _)) $$ [Hr]
  · isplitr; · iexact Hctx
    iexact Hr
  imod (bigSep_fupd Finset.univ _) $$ Hr with Hr
  imodintro
  iframe Hb
  rw [ownSems_eq, own_eq fun s => (semVal ((c : Thread nD τ), s) 0 : sProp 𝕄)]
  iframe Hs Hr

/-! ## The body, from whole buffers to whole buffers -/

/-- The scratch buffers, each whole at some contents. -/
def scratch (c : Dev nD) : sProp 𝕄 := iprop(some' c sxM ∗ some' c rxM ∗ some' c oqM ∗ some' c ryM ∗ some' c rzM)

/-- What the three signals hand over: the places the links land in, by axis. -/
theorem signals (c : Dev nD) :
    iprop((bigSep Finset.univ fun a : Fin 3 => dutyTok ER (barCell (nb a c)) 0 a) ∗ bigSep Finset.univ (landing (F := F) c))
      ⊢ iprop(toSignal c 0 ∗ toSignal c 1 ∗ toSignal c 2) := by
  have hfib := bigSep_fiberwise (Finset.univ : Finset (Fin 16)) axis (landing (F := F) c)
  rw [show (Finset.univ : Finset (Fin 16)).image axis = Finset.univ by decide] at hfib
  rw [hfib, pairs, bigSep_W0]
  unfold toSignal
  iintro H; iexact H

/-- The region's body: from its opened cells and whole scratch buffers, with the staged blocks and a result buffer at any
    contents, to every cell closed, the scratch buffers whole again and the result buffer at the device's result. -/
theorem region_run (c : Dev nD) (Q : PUnit → sProp 𝕄) :
    iprop(Xk X G c ∗ scratch c ∗ owe c 0 ∗ stP X c ∗ stG G c ∗ (∃ f, oM.view.loc (c : Thread nD τ) ↦[oM.view.set]{fullShare} f))
      ⊢ iprop(((Yk c ∗ Pipeline.ownSems0 osem c ∗ scratch c ∗ owe c 19 ∗ stP X c ∗ stG G c
            ∗ (oM.view.loc (c : Thread nD τ) ↦[oM.view.set]{fullShare} outAt X G c)) -∗ Q ⟨⟩)
          -∗ wpb c (cc0_body pM (Memref.isWhole_whole _) gM (Memref.isWhole_whole _) oM (Memref.isWhole_whole _) sxM (Memref.isWhole_whole _) rxM (Memref.isWhole_whole _)
            oqM (Memref.isWhole_whole _) ryM (Memref.isWhole_whole _) rzM (Memref.isWhole_whole _) cc0_scratch5 cc0_scratch6 cc0_scratch7 cc0_scratch8 cc0_scratch9 cc0_scratch10) Q) := by
  unfold Xk scratch
  iintro ⟨⟨⟨%K, #Hctx⟩, Hab, Hcb, Htb, Htok, HatS, Hrecv, HrR⟩, ⟨Hsx, Hrx, Hoq, Hry, Hrz⟩, HO, HP, HG, ⟨%f, Hf⟩⟩ Hk
  ihave Hpl := (places_split c) $$ [Hrx Hry Hrz]
  · iframe Hrx Hry Hrz
  ihave Hland := (Entails.of_eq (pairs (fun l => slot (F := F) c (dstB l)) fun l => reached ER (rCell c l) 0)) $$ [Hpl HrR]
  · iframe Hpl HrR
  ihave Hsig := (signals c) $$ [Htb Hland]
  · iframe Htb
    iexact Hland
  ihave H8 := (split8 c sxM) $$ Hsx
  ihave H4 := (split4 c oqM) $$ Hoq
  iapply (body_run X G K c Q) $$ [Hab Hcb Hsig Htok HatS Hrecv H8 H4 HO HP HG Hf]
  · isplitr; · iexact Hctx
    unfold bodyIn
    rw [rest_zero, rest_zero, rest_zero]
    iframe HO Hsig Hcb Hab Htok Hrecv HatS H8 H4 HP HG
    unfold filled
    iexists f; isplitr; · (ipureintro; exact filled_zero X G c f)
    iexact Hf
  unfold bodyOut
  rw [done_all, done_all]
  iintro ⟨HO, Hab, Hgot, Hback, HP, HG, Hf⟩
  ihave Hgot := (Entails.of_eq (show bigSep Finset.univ (recv X G c) = _ from
    (pairs (fun l => recvd (carried X G) c l) fun l => (atPos ER (rCell c l) 1 ∅ 0 : sProp 𝕄)).symm)) $$ Hgot
  icases Hgot with ⟨Hgot, HaR⟩
  ihave Hback := (Entails.of_eq (show bigSep Finset.univ (waited X G c) = _ from
    (pairs (fun i => sent (carried X G) c (ord i)) fun i => (atPos ER (sCell c (ord i)) 1 ∅ 0 : sProp 𝕄)).symm)) $$ Hback
  icases Hback with ⟨Hback, HaS⟩
  imod (hclose X G K c) $$ [Hab HaS HaR] with ⟨HY, Hsem⟩
  · iframe Hctx Hab HaS HaR
  imodintro
  iapply Hk
  ihave Hback := (Entails.of_eq (by_ord fun l => sent (carried X G) c l).symm) $$ Hback
  ihave Hback := (sources_join X G c) $$ Hback
  icases Hback with ⟨Hsx, Hoq⟩
  ihave Hgot := (fam_mono (recvd_slot X G c)) $$ Hgot
  ihave Hgot := (places_join c) $$ Hgot
  icases Hgot with ⟨Hrx, Hry, Hrz⟩
  unfold filled
  icases Hf with ⟨%f', %hf', Hf⟩
  rw [filled_all X G c hf']
  iframe HY Hsem Hsx Hrx Hoq Hry Hrz HO HP HG Hf

end Cert.KernelIdeal.Run

end
-- ==== Proof.Data.lean ====
/- What the staged windows hold before and after the kernel's one point, and the body's obligation there. -/
module

public import proofs.«01_k».proof.Proof.Region
public import proofs.«01_k».proof.Proof.Gen.KernelIdeal.Frame

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The partial sums and the scale row a device's body finds staged. -/
def stagedP (c : Dev nD) : S1x1024x512.Idx → Elt F .bf16 := (win0_0.blk t0_0).view.read (Elt F) (V m c main_arg0)
def stagedG (c : Dev nD) : S1x512.Idx → Elt F .bf16 := (win0_1.blk t0_0).view.read (Elt F) (V m c main_v1)
/-- The result a device's body leaves. -/
def result (c : Dev nD) : S512x512.Idx → Elt F .f32 := outAt (stagedP m) (stagedG m) c

/-- Before the point: the cells opened, the scratch buffers; after it: every cell closed, the scratch buffers. -/
def Φ₀ (c : Dev nD) : sProp 𝕄 := iprop(Xk (stagedP m) (stagedG m) c ∗ scratch c ∗ ∃ r, prngReg c r)
def Φ₁ (c : Dev nD) : sProp 𝕄 := iprop(Yk c ∗ Pipeline.ownSems0 osem c ∗ scratch c ∗ ∃ r, prngReg c r)

def dat (c : Dev nD) : Dat τ (Elt F) Unit ℕ UU ℕ cfg0 c where
  A w := V m c (Pipeline.arrRef spec0 w)
  after w _ := match w with
    | ⟨0, _⟩ => stagedP m c
    | ⟨1, _⟩ => stagedG m c
    | ⟨2, _⟩ => result m c
  Φ t := match t with
    | ⟨0, _⟩ => Φ₀ m c
    | ⟨_ + 1, _⟩ => Φ₁ c
  q _ := fullShare
  owed t := match t with
    | ⟨0, _⟩ => owed c 0
    | ⟨_ + 1, _⟩ => 0

theorem owes_intro {cfg : Cfg sig Λ₀} {c : Dev nD} (d : Dat τ (Elt F) Unit ℕ UU ℕ cfg c) (t : Fin (cfg.N + 1)) (O : CellTallies nD τ sig Unit)
    (h : d.owed t = O) (W : Waits sig Unit) (hr : d.recorded t = Set.univ) : (owes (c : Thread nD τ) O W : sProp 𝕄) ⊢ (d.owesAt () t : sProp 𝕄) := by
  unfold Dat.owesAt Pipeline.owesWithin Dat.bound; rw [h, hr]
  iintro HO; iexists W; isplitr; · (ipureintro; exact fun _ _ => Or.inl trivial)
  iexact HO
theorem owes_elim {cfg : Cfg sig Λ₀} {c : Dev nD} (d : Dat τ (Elt F) Unit ℕ UU ℕ cfg c) (t : Fin (cfg.N + 1)) (O : CellTallies nD τ sig Unit)
    (h : d.owed t = O) : (d.owesAt () t : sProp 𝕄) ⊢ iprop(∃ W, owes (c : Thread nD τ) O W) := by
  unfold Dat.owesAt Pipeline.owesWithin; rw [h]
  iintro ⟨%W, -, HO⟩; iexists W; iexact HO

theorem bigSep_W (Φ : Fin cfg0.W → sProp 𝕄) : bigSep Finset.univ Φ = iprop(Φ (0 : Fin 3) ∗ Φ (1 : Fin 3) ∗ Φ (2 : Fin 3)) := bigSep_W0 Φ

/-- A staging buffer, whole, at given contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_eq (c : Dev nD) (b : Ref sig .tc) (X : b.ty.Contents (Elt F)) :
    stg c b X = (((Memref.whole b).view.loc (c : Thread nD τ)) ↦[(Memref.whole b).view.set]{fullShare} X : sProp 𝕄) := by
  have hs : ((Memref.whole b).view.set) = Finset.univ := View.set_whole _
  rw [hs]
  refine eq_of_both ?_ ?_
  · unfold stg; iintro ⟨%f, %hf, H⟩; subst hf; iexact H
  · unfold stg; iintro H; iexists X; isplitr; · (ipureintro; rfl)
    iexact H

theorem before_p (c : Dev nD) (d) : (dat m c).before (0 : Fin 3) t0_0 d = stagedP m c := by
  unfold Dat.before; rw [if_pos (fetch0_0 t0_0)]; rfl
theorem before_g (c : Dev nD) (d) : (dat m c).before (1 : Fin 3) t0_0 d = stagedG m c := by
  unfold Dat.before; rw [if_pos (fetch0_1 t0_0)]; rfl

def pre' (c : Dev nD) : sProp 𝕄 :=
  iprop(Φ₀ m c ∗ (dat m c).owesAt () t0_0.castSucc ∗ (∃ d, stg c cc0_stg0_0 ((dat m c).before (0 : Fin 3) t0_0 d))
    ∗ (∃ d, stg c cc0_stg1_0 ((dat m c).before (1 : Fin 3) t0_0 d)) ∗ (∃ d, stg c cc0_stg2_0 ((dat m c).before (2 : Fin 3) t0_0 d)))
def post' (c : Dev nD) : sProp 𝕄 :=
  iprop(Φ₁ c ∗ (dat m c).owesAt () t0_0.succ ∗ stg c cc0_stg0_0 (stagedP m c) ∗ stg c cc0_stg1_0 (stagedG m c) ∗ stg c cc0_stg2_0 (result m c))

theorem body_point (c : Dev nD) : pre' m c
    ⊢ wpb c (cc0_body pM (Memref.isWhole_whole _) gM (Memref.isWhole_whole _) oM (Memref.isWhole_whole _) sxM (Memref.isWhole_whole _) rxM (Memref.isWhole_whole _)
            oqM (Memref.isWhole_whole _) ryM (Memref.isWhole_whole _) rzM (Memref.isWhole_whole _) cc0_scratch5 cc0_scratch6 cc0_scratch7 cc0_scratch8 cc0_scratch9 cc0_scratch10)
          (fun _ => post' m c) := by
  unfold pre' Φ₀
  simp only [before_p, before_g]
  iintro ⟨⟨HX, Hscr, Hreg⟩, HO, ⟨%d0, HP⟩, ⟨%d1, HG⟩, ⟨%d2, Ho⟩⟩
  ihave HO := (owes_elim (dat m c) _ (owed c 0) rfl) $$ HO
  iapply (region_run (stagedP m) (stagedG m) c (fun _ => post' m c)) $$ [HX Hscr HO HP HG Ho]
  · iframe HX Hscr
    isplitl [HO]; · unfold owe; iexact HO
    isplitl [HP]; · iapply (Entails.of_eq (show stg c cc0_stg0_0 (stagedP m c) = stP (stagedP m) c from stg_eq c _ _)); iexact HP
    isplitl [HG]; · iapply (Entails.of_eq (show stg c cc0_stg1_0 (stagedG m c) = stG (stagedG m) c from stg_eq c _ _)); iexact HG
    iexists _; iapply (Entails.of_eq (stg_eq c cc0_stg2_0 _)); iexact Ho
  iintro ⟨HY, Hsem, Hscr, HO, HP, HG, Ho⟩
  unfold post' Φ₁
  iframe HY Hsem Hscr Hreg
  isplitl [HO]
  · unfold owe; rw [owed_end]; icases HO with ⟨%W, HO⟩
    iapply (owes_intro (dat m c) t0_0.succ 0 rfl W rfl); iexact HO
  isplitl [HP]; · iapply (Entails.of_eq (show stP (stagedP m) c = stg c cc0_stg0_0 (stagedP m c) from (stg_eq c _ _).symm)); iexact HP
  isplitl [HG]; · iapply (Entails.of_eq (show stG (stagedG m) c = stg c cc0_stg1_0 (stagedG m c) from (stg_eq c _ _).symm)); iexact HG
  iapply (Entails.of_eq (stg_eq c cc0_stg2_0 (result m c)).symm); iexact Ho

set_option maxRecDepth 40000 in
/-- The body's obligation at its one point. -/
theorem body_obligation (c : Dev nD) : BodyObligation (dat m c) (defs₀ (F := F)) 𝒱₀ () Set.univ := fun t => by
  rw [fin_N0 t]
  rw [bigSep_W, bigSep_W]
  simp only [owns_whole_eq]
  have h : pre' m c ⊢ wp frame (wpE (defs₀ (F := F)) 𝒱₀ (c : Thread nD τ) none) Set.univ (bodyAt0 t0_0) (fun _ => post' m c) := body_point m c
  exact h

end Cert.KernelIdeal.Run

end
-- ==== Proof.Whole.lean ====
/- Every window of the kernel is its whole array: what the body finds staged, and what the result array ends at. -/
module

public import proofs.«01_k».proof.Proof.Data
public import Idealize.ShloMosaic.Lib.Pipeline.Value

@[expose] public section

noncomputable section

namespace Cert.KernelIdeal.Run

open Idealize.ShloMosaic Idealize.ShloMosaic.TcCoe
open Cert.KernelIdeal Cert.KernelIdeal.Gen

variable {F : FTy → Type} [FloatOps F]
variable (m : (ℓ : Loc nD τ sig) → Buf (Elt F) ℓ)

/-- Reading the one block of a window is reading its array. -/
theorem blk_read_p (t : Fin cfg0.N) (X : S1x1024x512.Idx → Elt F .bf16) : (win0_0.blk t).view.read (Elt F) X = X := by
  funext i
  rw [View.read_apply]
  exact congrArg X (funext fun a => Fin.ext (Pipeline.Window.rect_emb_val_of_index_zero win0_0 t a rfl i))
theorem blk_read_g (t : Fin cfg0.N) (X : S1x512.Idx → Elt F .bf16) : (win0_1.blk t).view.read (Elt F) X = X := by
  funext i
  rw [View.read_apply]
  exact congrArg X (funext fun a => Fin.ext (Pipeline.Window.rect_emb_val_of_index_zero win0_1 t a rfl i))
theorem blk_emb_o (t : Fin cfg0.N) (i : S512x512.Idx) : ((win0_2.blk t).view.emb i : S512x512.Idx) = i :=
  funext fun a => Fin.ext (Pipeline.Window.rect_emb_val_of_index_zero win0_2 t a rfl i)
theorem blk_read_o (t : Fin cfg0.N) (X : S512x512.Idx → Elt F .f32) : (win0_2.blk t).view.read (Elt F) X = X := by
  funext i
  rw [View.read_apply]
  exact congrArg X (blk_emb_o t i)

/-- The body finds the partial sums as launched. -/
theorem stagedP_eq (c : Dev nD) : stagedP m c = m ((c : Thread nD τ).loc main_arg0) := (blk_read_p t0_0 _).trans (V_main_arg0 m c)
/-- The body finds the scale as one row. -/
theorem stagedG_eq (c : Dev nD) : stagedG m c = V m c main_v1 := blk_read_g t0_0 _

/-- The result array ends at the body's result. -/
theorem arrAt_result (c : Dev nD) : (dat m c).arrAt (2 : Fin 3) cfg0.N = result m c :=
  Pipeline.Dat.arrAt_eq_of_cover (dat m c) (2 : Fin 3) (result m c)
    (fun t _ => by
      have h : (dat m c).flushed (2 : Fin 3) t = result m c := rfl
      exact h.trans (blk_read_o t _).symm)
    (fun i => ⟨t0_0, flush0_2 t0_0, by
      have h := (win0_2.blk t0_0).view.emb_mem_set i
      rw [blk_emb_o t0_0 i] at h; exact h⟩)

end Cert.KernelIdeal.Run

end
-- ==== Proof.Launch.lean ====
/- @main as its host operation and its region. -/
module

public import proofs.«01_k».proof.Proof.Whole

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers of @main, and what they hold -/

/-- A device's arrays as launched, at the region, and after it. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v2) (result m c)

theorem V₁_eq (c : Dev nD) (b : Ref sig .tc) : V₁ m c (Proc.devRef .tc b) = V m c b := rfl
theorem V₂_result (c : Dev nD) : V₂ m c (Proc.devRef .tc main_v2) = result m c := Function.update_self _ _ _
theorem V₂_other (c : Dev nD) (b : Ref sig .tc) (h : Proc.devRef .tc b ≠ (Proc.devRef .tc main_v2 : DevRef τ sig)) : V₂ m c (Proc.devRef .tc b) = V m c b :=
  Function.update_of_ne h _ _

def bufs : Finset (DevRef τ sig) := (StableHlo.tcRefs τ sig).filter fun b => ¬ b.isScoped
/-- The one array that no window stages. -/
def spare : Finset (DevRef τ sig) := {Proc.devRef .tc main_arg1}

/-- An array of a device, held whole. -/
def arr (c : Dev nD) (b : Ref sig .tc) (f : Buf (Elt F) ((c : Thread nD τ).loc b)) : sProp 𝕄 := ((c : Thread nD τ).loc b) ↦{fullShare} f

theorem bufs_eq (c : Dev nD) (W : Valuation τ sig (Elt F)) : (StableHlo.held (c : Thread nD τ) bufs W : sProp 𝕄)
    = iprop(arr c main_arg0 (W (Proc.devRef .tc main_arg0)) ∗ arr c main_arg1 (W (Proc.devRef .tc main_arg1))
      ∗ arr c main_v1 (W (Proc.devRef .tc main_v1)) ∗ arr c main_v2 (W (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl
theorem windows_eq (c : Dev nD) (W : Valuation τ sig (Elt F)) : (StableHlo.held (c : Thread nD τ) (Pipeline.arrRefs (τ := τ) (pcfgs (F := F) 0).spec) W : sProp 𝕄)
    = iprop(arr c main_arg0 (W (Proc.devRef .tc main_arg0)) ∗ arr c main_v1 (W (Proc.devRef .tc main_v1)) ∗ arr c main_v2 (W (Proc.devRef .tc main_v2))) := by
  show StableHlo.held (c : Thread nD τ) (Pipeline.arrRefs (τ := τ) spec0) W = _
  unfold StableHlo.held
  rw [bigSep_eq_bigSepL_of_eq [Proc.devRef .tc main_arg0, Proc.devRef .tc main_v1, Proc.devRef .tc main_v2] (by decide) (by decide)]
  rfl
theorem spare_eq (c : Dev nD) (W : Valuation τ sig (Elt F)) : (StableHlo.held (c : Thread nD τ) spare W : sProp 𝕄)
    = arr c main_arg1 (W (Proc.devRef .tc main_arg1)) := by
  unfold StableHlo.held spare; rw [bigSep_singleton]; rfl
theorem none_eq (c : Dev nD) (W : Valuation τ sig (Elt F)) : (StableHlo.held (c : Thread nD τ) ∅ W : sProp 𝕄) = BI.emp := BI.bigSep_empty

/-! ## The segments -/

abbrev adm : (p : Fin 1) → (pcfgs (F := F) p).Adm := fun p => (cfgs p).toPCfg_adm
def dats (p : Fin 1) (c : Dev nD) : Dat τ (Elt F) Unit ℕ UU ℕ (Pipeline.pin (pcfgs (F := F)) adm p) c := match p with
  | ⟨0, _⟩ => dat m c
  | ⟨n + 1, h⟩ => absurd h (Nat.not_lt.2 (Nat.le_add_left _ _))

local notation "HostS" => Pipeline.HostSeg (Name := ℕ) (U := UU) (pcfgs (F := F)) defs₀ 𝒱₀ L lv
local notation "RegionS" => Pipeline.RegionSeg (pcfgs (F := F)) adm (dats m) () defs₀ 𝒱₀ L lv

/-- What rides from launch to the region beside the arrays. -/
def ride (c : Dev nD) : sProp 𝕄 := iprop((Tk (stagedP m) (stagedG m) c ∗ ∃ r, prngReg c r) ∗ ∃ W, owes (c : Thread nD τ) (owed c 0) W)

theorem host_sub : ∀ op ∈ (hostOps0 : List (HloOp τ sig (Elt F))), op.bufs ⊆ bufs := fun op h => by
  simp only [List.mem_singleton] at h; subst h
  show ({Proc.devRef .tc main_arg1, Proc.devRef .tc main_v1} : Finset (DevRef τ sig)) ⊆ bufs; decide
theorem host_fresh : ∀ op ∈ (hostOps0 : List (HloOp τ sig (Elt F))), op.fresh = ∅ := fun op h => by
  simp only [List.mem_singleton] at h; subst h; rfl

def host : HostS := Pipeline.HostSeg.ofOps _ _ _ _ _ bufs hostOps0 host_sub host_fresh (V₀ m) (ride m)

theorem owed_first (c : Dev nD) : (dats m 0 c).owed 0 = owed c 0 := rfl
theorem owed_last (c : Dev nD) : (dats m 0 c).owed (Fin.last _) = 0 := rfl

theorem owed_some (c : Dev nD) (t : Fin ((Pipeline.pin (pcfgs (F := F)) adm 0).N + 1)) (g : GSem nD τ sig) (i : Unit) (h : 0 < (dats m 0 c).owed t g i) :
    i ∈ L g ∧ (0 : ℕ) < lv g i := by
  obtain ⟨t, ht⟩ := t
  cases t with
  | zero =>
    have h' : 0 < owed c 0 g i := h
    obtain ⟨k, hk, hk', rfl⟩ := owed_pos h'
    exact ⟨by rw [L_tgt]; exact Finset.mem_singleton_self _, lt_of_lt_of_le (by decide) (floor_le c hk hk')⟩
  | succ t => exact absurd (show 0 < (0 : CellTallies nD τ sig Unit) g i from h) (Nat.lt_irrefl 0)

theorem stage_level : ∀ (w : Fin 3) (s : Fin (win0 w).nbuf), lvs (.dma ((win0 w).sem s)) = 0 := by decide

theorem share_eq (c : Dev nD) (w : Fin cfg0.W) : (dats m 0 c).share w = fullShare := by
  unfold Dat.share; split <;> rfl

theorem scratch_eq (c : Dev nD) : (Pipeline.scopedRest (Ix := Unit) (Name := ℕ) (U := UU) (Lvl := ℕ) (Val := Elt F) spec0 c : sProp 𝕄) = scratch c := by
  rw [scopedRest0_eq, some_whole, some_whole, some_whole, some_whole, some_whole]
  rfl

theorem point_in (c : Dev nD) :
    iprop(Pipeline.scopedRest (Pipeline.pin (pcfgs (F := F)) adm 0).spec c ∗ (∃ r, prngReg c r) ∗ StableHlo.held (c.tc : Thread nD τ) ∅ (V₁ m c) ∗ Xk (stagedP m) (stagedG m) c)
      ⊢ (dats m 0 c).Φ 0 := by
  show iprop(Pipeline.scopedRest spec0 c ∗ (∃ r, prngReg c r) ∗ StableHlo.held (c.tc : Thread nD τ) ∅ (V₁ m c) ∗ Xk (stagedP m) (stagedG m) c) ⊢ Φ₀ m c
  rw [scratch_eq]; unfold Φ₀
  iintro ⟨Hs, Hp, -, HX⟩
  iframe HX Hs Hp
theorem point_out (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ Yk c) := by
  show Φ₁ c ⊢ iprop(Pipeline.scopedRest spec0 c ∗ (∃ r, prngReg c r) ∗ StableHlo.held (c.tc : Thread nD τ) ∅ (V₂ m c) ∗ Pipeline.ownSems0 osem c ∗ Yk c)
  rw [scratch_eq, none_eq]; unfold Φ₁
  iintro ⟨HY, Hsem, Hs, Hp⟩
  iframe Hs Hp Hsem HY
  iempintro

theorem arr_first (c : Dev nD) (w : Fin cfg0.W) : (dats m 0 c).arrAt w 0 = V₁ m c (Proc.devRef .tc (Pipeline.arrRef spec0 w)) := rfl
theorem arr_last (c : Dev nD) (w : Fin cfg0.W) : (dats m 0 c).arrAt w cfg0.N = V₂ m c (Proc.devRef .tc (Pipeline.arrRef spec0 w)) := by
  match w with
  | ⟨0, _⟩ => exact ((dat m c).arrAt_in (0 : Fin 3) rfl _).trans (V₂_other m c main_arg0 (by decide)).symm
  | ⟨1, _⟩ => exact ((dat m c).arrAt_in (1 : Fin 3) rfl _).trans (V₂_other m c main_v1 (by decide)).symm
  | ⟨2, _⟩ => exact (arrAt_result m c).trans (V₂_result m c).symm

set_option backward.isDefEq.respectTransparency.types false in
def region : RegionS 0 :=
  Pipeline.RegionSeg.ofTalk (pcfgs (F := F)) adm (dats m) () defs₀ 𝒱₀ L lv 0 osem (by decide : Pipeline.OwnSemFacts spec0 osem)
    ∅ spare (Finset.empty_subset _) launch0.toP rfl (fun c => (body_obligation m c).loose)
    (fun _ => 0) (fun c => owed c 0) (fun c => (owed_first m c).trans (zero_add _).symm) (owed_last m) (fun _ => rfl) (share_eq m)
    (V₁ m) (V₂ m) (fun c b hb => by
      obtain rfl := Finset.mem_singleton.mp (Finset.mem_sdiff.mp hb).1
      exact V₂_other m c main_arg1 (by decide))
    (Tk (stagedP m) (stagedG m)) Yk (Xk (stagedP m) (stagedG m)) Yk (hopen (stagedP m) (stagedG m)) (point_in m) (point_out m)
    (fun c => by iintro H; imodintro; iexact H)
    (fun _ => 0)
    ⟨fun c w s => by rw [L_tc]; exact Finset.mem_singleton_self _, fun c w s => le_of_eq (stage_level w s), fun c t g i h => owed_some m c t g i h⟩
    (fun _ => iprop(emp)) (arr_first m) (arr_last m)

theorem region_pre (c : Dev nD) : iprop(StableHlo.held (c : Thread nD τ) bufs (V₁ m c) ∗ ride m c) ⊢ (region m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) spare (V₁ m c) ∗ emp) ∗ Tk (stagedP m) (stagedG m) c ∗ ∃ Wd, owes (c : Thread nD τ) (0 + owed c 0) Wd)
  rw [bufs_eq, windows_eq, spare_eq, zero_add]
  unfold ride
  iintro ⟨⟨H0, H1, H2, H3⟩, ⟨HT, Hp⟩, HO⟩
  iframe H0 H2 H3 Hp H1 HT HO

theorem region_post (c : Dev nD) : (region m).post c
    ⊢ iprop(StableHlo.held (c : Thread nD τ) bufs (V₂ m c) ∗ (semVal (barCell c) 0 ∗ ∃ W, owes (c : Thread nD τ) (0 : CellTallies nD τ sig Unit) W)) := by
  show iprop(StableHlo.held (c.tc : Thread nD τ) (Pipeline.arrRefs (τ := τ) (pcfgs (F := F) 0).spec) (V₂ m c) ∗ (∃ r, prngReg c r)
    ∗ (StableHlo.held (c.tc : Thread nD τ) spare (V₂ m c) ∗ emp) ∗ Yk c ∗ ∃ Wd, owes (c : Thread nD τ) (0 : CellTallies nD τ sig Unit) Wd) ⊢ _
  rw [bufs_eq, windows_eq, spare_eq]
  unfold Yk
  iintro ⟨⟨H0, H2, H3⟩, -, ⟨H1, -⟩, Hb, HO⟩
  iframe H0 H1 H2 H3 Hb HO

/-- @main as the list. -/
def segs : List (Pipeline.Seg (pcfgs (F := F)) adm (dats m) () defs₀ 𝒱₀ L lv) := [.host (host m), .region (region m)]

theorem main_eq (c : Dev nD) : main (F := F) c = Pipeline.Seg.run (segs m) :=
  main_segs adm (dats m) () 𝒱₀ L lv (host m) (region m) rfl c

end Cert.KernelIdeal.Run

end
-- ==== Proof.Run.lean ====
/- The launch: every cell funded, its records and tokens dealt, and the run of @main to its end. -/
module

public import proofs.«01_k».proof.Proof.Launch

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch -/

theorem osem_inj : Function.Injective osem := by decide
theorem osem_ne_bar : ∀ p, osem p ≠ .reg barS := by decide

def barEmb : Dev nD ↪ GSem nD τ sig := ⟨fun c => barCell c, fun _ _ h => congrArg (fun g : GSem nD τ sig => g.1.1) h⟩
def ownEmb : Dev nD × (Fin 2 × Fin 16) ↪ GSem nD τ sig :=
  ⟨fun x => ((x.1 : Thread nD τ), osem x.2), fun _ _ h =>
    Prod.ext (congrArg (fun g : GSem nD τ sig => g.1.1) h) (osem_inj (congrArg Prod.snd h))⟩
/-- The barrier cells, open from launch; the cells of the kernel's own semaphores, opened inside its region. -/
abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

/-- The duties of one device's cells: three at its barrier cell, one at each cell of its own semaphores. -/
def tokAt (y : Fin 3 ⊕ (Fin 2 × Fin 16)) : SemLoc sig × Fin 3 := y.elim (fun a => (.reg barS, a)) fun p => (osem p, 0)
theorem tokAt_inj : Function.Injective tokAt := by
  intro y y' h
  rcases y with a | p <;> rcases y' with a' | p'
  · exact congrArg Sum.inl (congrArg Prod.snd h)
  · exact absurd (congrArg Prod.fst h).symm (osem_ne_bar p')
  · exact absurd (congrArg Prod.fst h) (osem_ne_bar p)
  · exact congrArg Sum.inr (osem_inj (congrArg Prod.fst h))
def tokEmb : Dev nD × (Fin 3 ⊕ (Fin 2 × Fin 16)) ↪ GSem nD τ sig × ℕ × Fin 3 :=
  ⟨fun x => (((x.1 : Thread nD τ), (tokAt x.2).1), 0, (tokAt x.2).2), fun _ _ h =>
    Prod.ext (congrArg (fun t : GSem nD τ sig × ℕ × Fin 3 => t.1.1.1) h)
      (tokAt_inj (Prod.ext (congrArg (fun t : GSem nD τ sig × ℕ × Fin 3 => t.1.2) h) (congrArg (fun t : GSem nD τ sig × ℕ × Fin 3 => t.2.2) h)))⟩
def toks : Finset (GSem nD τ sig × ℕ × Fin 3) := Finset.univ.map tokEmb

/-- The launch's element of the protocol's algebra. -/
def start₀ : URounds (GSem nD τ sig) (Fin 3) := launchOf barCells ownCells toks
def u₀ : UU :=
  (initOf (Pipeline.cells (Pipeline.pin (pcfgs (F := F)) adm) cellOf_inj) (Pipeline.launchToks (Pipeline.pin (pcfgs (F := F)) adm) cellOf_inj), start₀)

/-- All of it starts with the first device. -/
def seed (c : Dev nD) : sProp 𝕄 := if c = 0 then BI.own (ER start₀) else iprop(emp)
theorem seed_all : bigSep Finset.univ seed = (BI.own (ER start₀) : sProp 𝕄) := by
  rw [bigSep_univ_at _ (0 : Dev nD), bigSep_congr (s := Finset.univ.erase (0 : Dev nD)) (Ψ := fun _ => (BI.emp : sProp 𝕄))
      fun c hc => show seed c = _ from if_neg (Finset.ne_of_mem_erase hc), BI.bigSep_emp_const]
  exact (congrArg (fun P : sProp 𝕄 => iprop(P ∗ emp)) (if_pos rfl)).trans (BI.equiv_iff.mp sep_emp)

/-! ## Families over the launch's cells and tokens, by device -/

theorem over_bar (Φ : GSem nD τ sig → sProp 𝕄) : bigSep barCells Φ = bigSep Finset.univ fun c : Dev nD => Φ (barCell c) :=
  BI.bigSep_map (s := Finset.univ) barEmb (Φ := Φ)
theorem over_own (Φ : GSem nD τ sig → sProp 𝕄) :
    bigSep ownCells Φ = bigSep Finset.univ fun c : Dev nD => bigSep Finset.univ fun p : Fin 2 × Fin 16 => Φ ((c : Thread nD τ), osem p) := by
  rw [BI.bigSep_map, BI.bigSep_univ_prod]; rfl
theorem over_links (Φ : GSem nD τ sig → sProp 𝕄) :
    bigSep ownCells Φ = iprop((bigSep Finset.univ fun x : Dev nD × Fin 16 => Φ (sCell x.1 x.2)) ∗ bigSep Finset.univ fun x : Dev nD × Fin 16 => Φ (rCell x.1 x.2)) := by
  rw [over_own, BI.bigSep_univ_prod, BI.bigSep_univ_prod, pairs]
  exact bigSep_congr fun c _ => own_eq fun s => Φ ((c : Thread nD τ), s)

theorem over_cells (Φ : GSem nD τ sig → sProp 𝕄) : bigSep (barCells ∪ ownCells) Φ = iprop((bigSep Finset.univ fun c : Dev nD => Φ (barCell c))
    ∗ (bigSep Finset.univ fun x : Dev nD × Fin 16 => Φ (sCell x.1 x.2)) ∗ bigSep Finset.univ fun x : Dev nD × Fin 16 => Φ (rCell x.1 x.2)) := by
  rw [← over_bar, ← over_links]; exact BI.bigSep_union disjoint_cells

/-- The devices and a finer index shuffled by the moves along the axes. -/
def aroundEquiv {I : Type} (a : I → Fin 3) : Dev nD × I ≃ Dev nD × I :=
  ⟨fun x => (nb (a x.2) x.1, x.2), fun x => (nb (a x.2) x.1, x.2), fun x => Prod.ext (nb_nb _ _) rfl, fun x => Prod.ext (nb_nb _ _) rfl⟩
theorem around {I : Type} [Fintype I] (a : I → Fin 3) (Φ : Dev nD → I → sProp 𝕄) :
    (bigSep Finset.univ fun c => bigSep Finset.univ fun i => Φ c i) = bigSep Finset.univ fun c => bigSep Finset.univ fun i => Φ (nb (a i) c) i := by
  have h := BI.bigSep_univ_equiv (aroundEquiv a) fun x : Dev nD × I => Φ x.1 x.2
  rw [BI.bigSep_univ_prod, BI.bigSep_univ_prod] at h
  exact h

/-- A device's tokens: those of the duties it pays. -/
def pays (c : Dev nD) : sProp 𝕄 :=
  iprop((bigSep Finset.univ fun a : Fin 3 => dutyTok ER (barCell (nb a c)) 0 a)
    ∗ (bigSep Finset.univ fun l : Fin 16 => dutyTok ER (sCell c l) 0 0)
    ∗ (bigSep Finset.univ fun l : Fin 16 => dutyTok ER (rCell (peer l c) l) 0 0))

theorem over_toks : bigSep toks (fun x => (dutyTok ER x.1 x.2.1 x.2.2 : sProp 𝕄)) = bigSep Finset.univ fun c : Dev nD => pays c := by
  unfold toks
  rw [BI.bigSep_map, BI.bigSep_univ_prod]
  have h1 (c : Dev nD) : (bigSep Finset.univ fun y : Fin 3 ⊕ (Fin 2 × Fin 16) =>
        (dutyTok ER (tokEmb (c, y)).1 (tokEmb (c, y)).2.1 (tokEmb (c, y)).2.2 : sProp 𝕄))
      = iprop((bigSep Finset.univ fun a : Fin 3 => dutyTok ER (barCell c) 0 a)
        ∗ (bigSep Finset.univ fun l : Fin 16 => dutyTok ER (sCell c l) 0 0) ∗ bigSep Finset.univ fun l : Fin 16 => dutyTok ER (rCell c l) 0 0) := by
    rw [BI.bigSep_univ_sum]
    exact congrArg (fun P : sProp 𝕄 => iprop((bigSep Finset.univ fun a : Fin 3 => dutyTok ER (barCell c) 0 a) ∗ P))
      (own_eq fun s => (dutyTok ER ((c : Thread nD τ), s) 0 0 : sProp 𝕄))
  rw [bigSep_congr fun c _ => h1 c]
  unfold pays
  rw [← pairs, ← pairs, ← pairs, ← pairs, around id fun c a => (dutyTok ER (barCell c) 0 a : sProp 𝕄),
    around axis fun c l => (dutyTok ER (rCell c l) 0 0 : sProp 𝕄)]
  simp only [peer_eq, id]

/-! ## The launch's credits -/

/-- What a device may wait for: three on its barrier cell, a slab's worth on each receive cell. -/
def due (c : Dev nD) : CellTallies nD τ sig Unit := tallyAt (barCell c) () 3 + ∑ l : Fin 16, tallyAt (rCell c l) () N

theorem owed_all (c : Dev nD) : owed c 0 = (∑ a : Fin 3, tallyAt (barCell (nb a c)) () 1) + ∑ i : Fin 16, tallyAt (rCell (peer (ord i) c) (ord i)) () N := by
  unfold owed
  rw [← Finset.range_eq_Ico, ← Fin.sum_univ_eq_sum_range (fun i => (tallyAt (tgt c i) () (amt (tgt c i).2) : CellTallies nD τ sig Unit)) (3 + 16), Fin.sum_univ_add]
  refine congrArg₂ (· + ·) (Finset.sum_congr rfl fun a _ => ?_) (Finset.sum_congr rfl fun i _ => ?_)
  · have h : tgt c (Fin.castAdd 16 a).val = barCell (nb a c) := dif_pos a.isLt
    rw [h]; rfl
  · have h : tgt c (Fin.natAdd 3 i).val = rCell (peer (ord i) c) (ord i) := by
      have e : (⟨(Fin.natAdd 3 i).val - 3, by have := i.isLt; show 3 + i.val - 3 < 16; omega⟩ : Fin 16) = i := Fin.ext (by show 3 + i.val - 3 = i.val; omega)
      refine (dif_neg (by show ¬ 3 + i.val < 3; omega)).trans ((dif_pos (by show 3 + i.val < 19; have := i.isLt; omega)).trans ?_)
      rw [e]
    rw [h]; rfl

theorem owed_due : (∑ c : Dev nD, owed c 0) = ∑ c : Dev nD, due c := by
  have hb : (∑ c : Dev nD, ∑ a : Fin 3, (tallyAt (barCell (nb a c)) () 1 : CellTallies nD τ sig Unit)) = ∑ c : Dev nD, tallyAt (barCell c) () 3 := by
    refine Finset.sum_comm.trans ((Finset.sum_congr rfl fun a _ =>
      Equiv.sum_comp (nbEquiv a) fun c : Dev nD => (tallyAt (barCell c) () 1 : CellTallies nD τ sig Unit)).trans (Finset.sum_comm.trans ?_))
    refine Finset.sum_congr rfl fun c _ => ?_
    rw [Fin.sum_univ_three, tallyAt_add, tallyAt_add]
  have hr : (∑ c : Dev nD, ∑ i : Fin 16, (tallyAt (rCell (peer (ord i) c) (ord i)) () N : CellTallies nD τ sig Unit)) = ∑ c : Dev nD, ∑ l : Fin 16, tallyAt (rCell c l) () N := by
    refine (Finset.sum_congr rfl fun c _ => Equiv.sum_comp ordEquiv fun l => (tallyAt (rCell (peer l c) l) () N : CellTallies nD τ sig Unit)).trans
      (Finset.sum_comm.trans ((Finset.sum_congr rfl fun l _ => ?_).trans Finset.sum_comm))
    refine (Finset.sum_congr rfl fun c _ => by rw [peer_eq]; rfl).trans
      (Equiv.sum_comp (nbEquiv (axis l)) fun c : Dev nD => (tallyAt (rCell c l) () N : CellTallies nD τ sig Unit))
  unfold due
  rw [Finset.sum_congr rfl fun c _ => owed_all c, Finset.sum_add_distrib, Finset.sum_add_distrib, hb, hr]

theorem due_own (c : Dev nD) (g : GSem nD τ sig) (h : due c g ≠ 0) : g.1 = (c.tc : Thread nD τ) := by
  by_contra hg
  refine h ?_
  have hz (s : SemLoc sig) (k : ℕ) : (tallyAt ((c : Thread nD τ), s) () k : CellTallies nD τ sig Unit) g = 0 :=
    tallyAt_ne_cell (fun e => hg (congrArg Prod.fst e)) _ _
  unfold due
  rw [Pi.add_apply, Finset.sum_apply, hz, Finset.sum_congr rfl fun l _ => hz _ _, Finset.sum_const_zero, add_zero]

theorem launch_credits (c : Dev nD) : (Pipeline.launchCred (fun c => owed c 0) c : sProp 𝕄) ⊢ credits c := by
  rw [Pipeline.launchCred_of_sum (fun c => owed c 0) due owed_due due_own c]
  unfold due credits
  refine (cred_add _ _).1.trans (sep_mono_right ?_)
  rw [Pipeline.cred_finsetSum]

/-! ## The launch -/

abbrev T₀ (c : Dev nD) : sProp 𝕄 := iprop(StableHlo.held (c : Thread nD τ) bufs (V₀ m c) ∗ ride m c)
abbrev T₁ (c : Dev nD) : sProp 𝕄 := iprop(StableHlo.held (c : Thread nD τ) bufs (V₂ m c) ∗ semVal (barCell c) 0)

theorem bufs_held (c : Dev nD) (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl
theorem sems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch's records, as the region wants them. -/
theorem known_intro (X : Dev nD → S1x1024x512.Idx → Elt F .bf16) (G : Dev nD → S1x512.Idx → Elt F .bf16) (κ : GSem nD τ sig → ℕ) :
    iprop(bigSep (barCells ∪ ownCells) (fun g => cellInv ER (Rd X G) (κ g) g) ∗ bigSep barCells (fun g => reached ER g 0)) ⊢ (known X G κ : sProp 𝕄) := by
  rw [over_cells, over_bar]
  unfold known
  iintro ⟨⟨H1, H2, H3⟩, H4⟩
  iframe H1 H2 H3 H4

/-- A device's holdings at launch that are not the protocol's. -/
def plain (c : Dev nD) : sProp 𝕄 :=
  iprop(StableHlo.held (c : Thread nD τ) bufs (V₀ m c) ∗ credits c ∗ owes (c : Thread nD τ) (owed c 0) ∅ ∗ ∃ r, prngReg c r)
/-- What it is dealt of the protocol. -/
def dealt (c : Dev nD) : sProp 𝕄 :=
  iprop(atPos ER (barCell c) 0 ∅ 0 ∗ (bigSep Finset.univ fun p : Fin 2 × Fin 16 => openTok ER ((c : Thread nD τ), osem p)) ∗ pays c)

theorem device_intro (κ : GSem nD τ sig → ℕ) (c : Dev nD) : iprop(known (stagedP m) (stagedG m) κ ∗ (dealt c ∗ plain m c)) ⊢ T₀ m c := by
  unfold plain dealt pays T₀ ride Tk ghost
  iintro ⟨Hk, ⟨Ha, Ho, H1, H2, H3⟩, Hh, Hc, HO, Hp⟩
  iframe Hh Hp Ha Ho H1 H2 H3 Hc
  isplitl [Hk]; · iexists κ; iexact Hk
  iexists _; iexact HO

theorem device_split (c : Dev nD) : iprop(unscopedBufs c (fun b => m ((c : Thread nD τ).loc b)) ∗ unscopedSems0 c
      ∗ owes (c : Thread nD τ) (owed c 0) ∅ ∗ Pipeline.launchCred (fun c => owed c 0) c ∗ prngReg c (ρ c) ∗ seed c)
    ⊢ (iprop(plain m c ∗ (semVal (barCell c) 0 ∗ seed c)) : sProp 𝕄) := by
  rw [show unscopedBufs c (fun b => m ((c : Thread nD τ).loc b)) = StableHlo.held (c : Thread nD τ) bufs (V₀ m c) from bufs_held c (V₀ m c), sems_bar]
  unfold plain
  iintro ⟨Hh, Hs, HO, Hc, Hp, Hg⟩
  ihave Hc := (launch_credits c) $$ Hc
  iframe Hh Hs HO Hc Hg
  iexists _; iexact Hp

theorem launch : iprop((bigSep Finset.univ fun c : Dev nD => iprop(unscopedBufs c (fun b => m ((c : Thread nD τ).loc b)) ∗ unscopedSems0 c
        ∗ owes (c : Thread nD τ) (owed c 0) ∅ ∗ Pipeline.launchCred (fun c => owed c 0) c ∗ prngReg c (ρ c) ∗ seed c)) ∗ levAts L lv)
    ⊢ (|={Set.univ}=> bigSep Finset.univ (T₀ m) : sProp 𝕄) := by
  iintro ⟨H, -⟩
  ihave H := (fam_mono (device_split m ρ)) $$ H
  ihave H := (Entails.of_eq (pairs (plain m) fun c => iprop(semVal (barCell c) 0 ∗ seed c)).symm) $$ H
  icases H with ⟨HB, H⟩
  ihave H := (Entails.of_eq (pairs (fun c : Dev nD => (semVal (barCell c) 0 : sProp 𝕄)) seed).symm) $$ H
  icases H with ⟨Hv, Hg⟩
  ihave Hg := (Entails.of_eq (seed_all (F := F))) $$ Hg
  ihave Hv := (Entails.of_eq (over_bar fun g => (semVal g 0 : sProp 𝕄)).symm) $$ Hv
  imod (Rounds.fund_launch ER (Rd (stagedP m) (stagedG m)) disjoint_cells (fun g _ h => h) toks) $$ [Hv Hg] with ⟨%κ, -, #Hinv, #Hr, Hat, Hop, Htok⟩
  · isplitl [Hv]; · iexact Hv
    iexact Hg
  imodintro
  ihave #Hk : known (stagedP m) (stagedG m) κ $$ []
  · iapply (known_intro (stagedP m) (stagedG m) κ)
    isplitr; · iexact Hinv
    iexact Hr
  iapply (bigSep_with_persistent (S := (Finset.univ : Finset (Dev nD))) (R := known (stagedP m) (stagedG m) κ) (Φ := fun c => iprop(dealt c ∗ plain m c)) (Ψ := T₀ m)
    fun c _ => device_intro m κ c)
  isplitr; · iexact Hk
  iapply (Entails.of_eq (pairs (fun c : Dev nD => (dealt c : sProp 𝕄)) (plain m)))
  isplitr [HB]
  · unfold dealt
    iapply (Entails.of_eq (pairs (fun c : Dev nD => (atPos ER (barCell c) 0 ∅ 0 : sProp 𝕄)) fun c =>
      iprop((bigSep Finset.univ fun p : Fin 2 × Fin 16 => openTok ER ((c : Thread nD τ), osem p)) ∗ pays c)))
    isplitl [Hat]; · iapply (Entails.of_eq (over_bar fun g => (atPos ER g 0 ∅ 0 : sProp 𝕄))); iexact Hat
    iapply (Entails.of_eq (pairs (fun c : Dev nD => (bigSep Finset.univ fun p : Fin 2 × Fin 16 => (openTok ER ((c : Thread nD τ), osem p) : sProp 𝕄))) pays))
    isplitl [Hop]; · iapply (Entails.of_eq (over_own fun g => (openTok ER g : sProp 𝕄))); iexact Hop
    iapply (Entails.of_eq (over_toks (F := F))); iexact Htok
  iexact HB

theorem unscoped_eq : ∀ sm : SemLoc sig, sm.isScoped .tc = false → sm = .reg barS := by decide

set_option backward.isDefEq.respectTransparency.types false in
/-- From any memory with every counter at zero, every fair run of @main on the devices ends; it leaves the arguments as
    they were, each device's result array at the named contents, and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = result m c) ∧ r.2.sem = fun _ => 0) :=
  Pipeline.θ_run_regions_kit_sems (pcfgs (F := F)) adm (dats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owed c 0) (hL := L_of_ne) (G := seed) (u₀ := u₀ (F := F))
    (hu₀ := by
      unfold u₀
      iintro Hu
      ihave H := (ownU_pair _ _) $$ Hu
      icases H with ⟨HP, HX⟩
      imodintro
      isplitl [HP]; · iexact HP
      iapply (Entails.of_eq (seed_all (F := F)).symm); iexact HX)
    (T₀ := T₀ m) (Tₙ := T₁ m)
    (hch := ⟨fun c => .rfl, fun c => region_pre m c, fun c => (region_post m c).trans (by
      iintro ⟨Hh, Hb, HO⟩
      isplitr [HO]
      · isplitl [Hh] <;> iassumption
      · iexact HO)⟩)
    (hinit := launch m ρ)
    (QY := fun c s => (s.mem ((c : Thread nD τ).loc main_arg0) = V₂ m c (Proc.devRef .tc main_arg0) ∧ s.mem ((c : Thread nD τ).loc main_arg1) = V₂ m c (Proc.devRef .tc main_arg1)
      ∧ s.mem ((c : Thread nD τ).loc main_v2) = V₂ m c (Proc.devRef .tc main_v2)) ∧ s.sem (barCell c) = 0)
    (hfin := fun c s' => by
      dsimp only [T₁]; rw [bufs_eq]; unfold arr
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        exact ⟨h0.trans ((V₂_other m c main_arg0 (by decide)).trans (V_main_arg0 m c)), h1.trans ((V₂_other m c main_arg1 (by decide)).trans (V_main_arg1 m c)),
          h2.trans (V₂_result m c)⟩,
      sem_eq_zero hs fun c sm hsm => by
        obtain rfl := unscoped_eq sm hsm
        exact (h c).2⟩)

end Cert.KernelIdeal.Run

end
-- ==== Proof.Frames.lean ====
/- What the runs leave of the programs' arguments and semaphores. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The idealized kernel ends with its arguments as launched and every semaphore at zero. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Run.run_main (F := Ideal) m ρ)

/-- The body tables of the two printings agree: the labels have the same functions. -/
theorem bodies : Cert.Kernel.defs₀ (F := Bits) = Cert.KernelIdeal.defs₀ :=
  congrArg Defs.onTc (funext fun l => match l with | 0 => funext fun _ => rfl)

/-- So do the tables with the call's pipeline. -/
theorem tables : Cert.Kernel.defs (F := Bits) = Cert.KernelIdeal.defs :=
  congrArg (Pipeline.defs (Cert.KernelIdeal.pcfgs (F := Bits))) bodies

/-- The kernel ends so too: its text is the idealized kernel's, read at machine floats. -/
theorem frame_kernel : Cert.quiescent_Kernel := fun m ρ _ => by
  rw [tables]
  exact (θ_run Cert.KernelIdeal.defs _ _).mono (fun _ h => ⟨fun c => ⟨(h.1 c).1, (h.1 c).2.1⟩, h.2⟩)
    (Cert.KernelIdeal.Run.run_main (F := Bits) m ρ)

/-- The reference ends with its arguments as launched; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Value.lean ====
/- The idealized kernel's result and the reference's, element by element over the extended reals. -/
module

public import proofs.«01_k».proof.Defs
public import proofs.«01_k».proof.Proof.Run
public import proofs.«01_k».proof.Proof.Gen.ReferenceIdeal.Run
public import Idealize.ShloMosaic.Lib.Pointwise
public import Idealize.ShloMosaic.Lib.IdealHost
public import Idealize.ShloMosaic.Lib.Layout

@[expose] public section

noncomputable section

namespace Cert.KernelIdeal.Run

open Idealize.ShloMosaic Idealize.ShloMosaic.TcCoe Idealize.SL.Sem
open Cert.KernelIdeal Cert.KernelIdeal.Gen

/-! ## Multiplying by the reciprocal root, and dividing by the root -/

/-- The row's length, as a float word. -/
theorem width : Ideal.ofBits .f32 0x44000000#32 = ((512 : ℝ) : EReal) := by
  unfold Ideal.ofBits Ideal.ieee
  simp [-EReal.coe_mul]
  norm_num
/-- The word added under the root is a positive real. -/
theorem under_root : ∃ e : ℝ, 0 < e ∧ Ideal.ofBits .f32 0x358637BD#32 = (e : EReal) := by
  refine ⟨_, ?_, by simp [Ideal.ofBits, Ideal.ieee]; rfl⟩
  positivity

/-- A square is not negative, infinities included. -/
theorem square_nonneg (x : EReal) : 0 ≤ x * x := by
  induction x with
  | bot => simp
  | top => simp
  | coe r => exact_mod_cast mul_self_nonneg r

/-- The mean of a row's squares plus the small constant. -/
def spread (y : Fin 512 → EReal) : EReal :=
  Ideal.div (∑ k, y k * y k) (Ideal.ofBits .f32 0x44000000#32) + Ideal.ofBits .f32 0x358637BD#32

theorem spread_pos (y : Fin 512 → EReal) : 0 < spread y := by
  obtain ⟨e, he, h⟩ := under_root
  have hs : (0 : EReal) ≤ ∑ k, y k * y k := Finset.sum_nonneg fun k _ => square_nonneg (y k)
  unfold spread
  rw [h, width, Ideal.div_coe (by norm_num)]
  have hm : (0 : EReal) ≤ (∑ k, y k * y k) * ((1 / 512 : ℝ) : EReal) := mul_nonneg hs (by exact_mod_cast (by norm_num : (0 : ℝ) ≤ 1 / 512))
  exact lt_of_lt_of_le (by exact_mod_cast he : (0 : EReal) < (e : EReal)) (le_add_of_nonneg_left hm)

/-- Above zero the product with the reciprocal root is the quotient by the root, at infinity too. -/
theorem times_rsqrt (y s : EReal) (hs : 0 < s) : y * Ideal.rsqrt s = Ideal.div y (Ideal.sqrt s) := by
  induction s with
  | bot => simp at hs
  | top => simp [Ideal.div]
  | coe r =>
    have hr : 0 < r := by exact_mod_cast hs
    have hq : Real.sqrt r ≠ 0 := (Real.sqrt_pos.2 hr).ne'
    rw [Ideal.sqrt_coe, Ideal.rsqrt_coe, if_neg (not_lt.2 hr.le), if_neg (not_lt.2 hr.le), if_neg hr.ne', Ideal.div_coe hq, one_div]

/-! ## The reference -/

/-- Row `R` of the sum of the two partial sums. -/
def total (A : (⟨3, ![2, 1024, 512]⟩ : Shape).Idx → EReal) (R : Fin 1024) (k : Fin 512) : EReal := ∑ x : Fin 2, A (ix3 x R k)

/-- Element `j` of a row normalised and scaled, in the reference's form. -/
def normed (y : Fin 512 → EReal) (g : EReal) (j : Fin 512) : EReal := Ideal.div (y j) (Ideal.sqrt (spread y)) * g

/-- The reference ends at the normalised rows of the total. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    ∃ v : (⟨2, ![1024, 512]⟩ : Shape).Idx → EReal,
      (∀ R j, v (ix2 R j) = normed (total (m ((0 : Dev Cert.ReferenceIdeal.nD).tc.loc Cert.ReferenceIdeal.main_arg0)) R)
        (m ((0 : Dev Cert.ReferenceIdeal.nD).tc.loc Cert.ReferenceIdeal.main_arg1) (ix1 j)) j)
      ∧ θ_run Cert.ReferenceIdeal.defs (onTc Cert.ReferenceIdeal.main) ⟨m, fun _ => 0, ρ⟩ fun r =>
        r.2.mem ((0 : Dev Cert.ReferenceIdeal.nD).tc.loc Cert.ReferenceIdeal.main_v15) = v
        ∧ r.2.mem ((0 : Dev Cert.ReferenceIdeal.nD).tc.loc Cert.ReferenceIdeal.main_arg0) = m ((0 : Dev Cert.ReferenceIdeal.nD).tc.loc Cert.ReferenceIdeal.main_arg0)
        ∧ r.2.mem ((0 : Dev Cert.ReferenceIdeal.nD).tc.loc Cert.ReferenceIdeal.main_arg1) = m ((0 : Dev Cert.ReferenceIdeal.nD).tc.loc Cert.ReferenceIdeal.main_arg1) := by
  refine ⟨_, ?_, (θ_run Cert.ReferenceIdeal.defs _ _).mono (fun _ h => h 0) (Cert.ReferenceIdeal.Value.run (F := Ideal) m ρ)⟩
  intro R j
  pointwise [normed, total, spread]

/-! ## The kernel's slabs -/

/-- A finished row: the device's own and the received partial sums added, normalised and scaled. -/
theorem finished_at (g : FVec Ideal S1x512 .bf16) (a b : Vec Ideal S1x32x512 .bf16) (r : Fin 32) (j : Fin 512) :
    k0_pay13 g a b (ix2 r j) = normed (fun k => b (ix3 0 r k) + a (ix3 0 r k)) (g (ix2 0 j)) j := by
  unfold normed
  rw [← times_rsqrt _ _ (spread_pos _)]
  pointwise [k0_pay13, spread]

/-- A finished row sent on keeps its values. -/
theorem sent_at (g : FVec Ideal S1x512 .bf16) (a b : Vec Ideal S1x32x512 .bf16) (r : Fin 32) (j : Fin 512) :
    k0_pay14 g a b (ix3 0 r j) = k0_pay13 g a b (ix2 r j) := by
  pointwise [k0_pay14]

/-- A received finished row is written as it came. -/
theorem written_at (a : Vec Ideal S1x32x512 .bf16) (r : Fin 32) (j : Fin 512) : k0_pay29 a (ix2 r j) = a (ix3 0 r j) := by
  pointwise [k0_pay29]

/-- A slab of partial sums is sent as it is. -/
theorem partial_at (a : Vec Ideal S1x32x512 .bf16) (r : Fin 32) (j : Fin 512) : k0_pay1 a (ix3 0 r j) = a (ix3 0 r j) := by
  pointwise [k0_pay1]

/-- The scale as the body reads it. -/
theorem scale_at (G : S1x512.Idx → EReal) (j : Fin 512) : k0_pay9 (F := Ideal) (grow G) (ix2 0 j) = G (ix2 0 j) := by
  have h : grow (F := Ideal) G (ix2 0 j) = G (ix2 0 j) := by
    unfold grow
    rw [View.read_apply]
    refine congrArg G (funext fun a => Fin.ext ?_)
    fin_cases a
    · rfl
    · show 0 + 1 * j.val = j.val; omega
  refine Eq.trans ?_ h
  pointwise [k0_pay9]

/-- A row of a block of staged partial sums. -/
theorem block_at (X : S1x1024x512.Idx → EReal) (b : Fin 32) (r : Fin 32) (k : Fin 512) :
    psl (F := Ideal) X b (ix3 0 r k) = X (ix3 0 ⟨32 * b.val + r.val, by omega⟩ k) := by
  unfold psl
  rw [View.read_apply]
  refine congrArg X (funext fun a => Fin.ext ?_)
  fin_cases a
  · rfl
  · show 32 * b.val + 1 * r.val = 32 * b.val + r.val; omega
  · show 0 + 1 * k.val = k.val; omega

/-! ## The kernel's result -/

section Result

variable (X : Dev nD → S1x1024x512.Idx → EReal) (G : Dev nD → S1x512.Idx → EReal)
variable (A : (⟨3, ![2, 1024, 512]⟩ : Shape).Idx → EReal) (g : Fin 512 → EReal)

/-- The place of a device along the first axis. -/
def half (c : Dev nD) : Fin 2 := ⟨c.val / 4, by have : c.val < 8 := c.isLt; omega⟩

theorem half_xp (c : Dev nD) : half (xp c) = 1 - half c := by revert c; decide

/-- A device's partial sums and its partner's add up to the total. -/
theorem pair_total (hX : ∀ c R k, X c (ix3 0 R k) = A (ix3 (half c) R k)) (c : Dev nD) (R : Fin 1024) (k : Fin 512) :
    X c (ix3 0 R k) + X (xp c) (ix3 0 R k) = total A R k := by
  rw [hX, hX, half_xp]
  unfold total
  rw [Fin.sum_univ_two]
  generalize half c = h
  match h with
  | 0 => rfl
  | 1 => exact add_comm _ _

/-- The rows a device finishes are the reference's. -/
theorem nslab_at (hX : ∀ c R k, X c (ix3 0 R k) = A (ix3 (half c) R k)) (hG : ∀ c j, G c (ix2 0 j) = g j)
    (c : Dev nD) (l : Fin 16) (hl : l.val < 8) (r : Fin 32) (j : Fin 512) :
    nslab (F := Ideal) X G c l (ix2 r j) = normed (total A ⟨32 * (kblk c l).val + r.val, by omega⟩) (g j) j := by
  unfold nslab xslab
  rw [finished_at, scale_at, hG]
  refine congrArg (fun y => normed y (g j) j) (funext fun k => ?_)
  rw [partial_at, sblk_xp c l hl, block_at, block_at]
  exact pair_total X A hX c _ k

/-- A later link brings the rows the device would have finished itself. -/
theorem kblk_peer (c : Dev nD) (l : Fin 16) (h : 8 ≤ l.val) : kblk (peer l c) ⟨l.val % 4, by omega⟩ = kblk c l := by revert c l; decide

/-- Each block a device writes holds the reference's rows. -/
theorem oval_at (hX : ∀ c R k, X c (ix3 0 R k) = A (ix3 (half c) R k)) (hG : ∀ c j, G c (ix2 0 j) = g j)
    (c : Dev nD) (l : Fin 16) (r : Fin 32) (j : Fin 512) :
    oval (F := Ideal) X G c l (ix2 r j) = normed (total A ⟨32 * (kblk c l).val + r.val, by omega⟩) (g j) j := by
  unfold oval
  by_cases hl : l.val < 8
  · rw [if_pos hl]; exact nslab_at X G A g hX hG c l hl r j
  · rw [if_neg hl, written_at]
    unfold carried
    rw [if_neg hl]
    unfold qslab
    rw [sent_at]
    refine (nslab_at X G A g hX hG (peer l c) ⟨l.val % 4, by omega⟩ (show l.val % 4 < 8 by omega) r j).trans ?_
    exact congrArg (fun b => normed (total A b) (g j) j)
      (Fin.ext (congrArg (fun b : Fin 32 => 32 * b.val + r.val) (kblk_peer c l (by omega))))

/-- The whole result of a device: the reference's rows of its half. -/
theorem outAt_at (hX : ∀ c R k, X c (ix3 0 R k) = A (ix3 (half c) R k)) (hG : ∀ c j, G c (ix2 0 j) = g j)
    (c : Dev nD) (i : Fin 512) (j : Fin 512) :
    outAt (F := Ideal) X G c (ix2 i j) = normed (total A ⟨512 * (half c).val + i.val, by omega⟩) (g j) j := by
  have hb : i.val / 32 < 16 := by omega
  have h := oval_at X G A g hX hG c (lnk c ⟨i.val / 32, hb⟩) ⟨i.val % 32, by omega⟩ j
  have e : (⟨32 * (kblk c (lnk c ⟨i.val / 32, hb⟩)).val + i.val % 32, by omega⟩ : Fin 1024) = ⟨512 * (half c).val + i.val, by omega⟩ := by
    refine Fin.ext ?_
    have hc : c.val < 8 := c.isLt
    have hl : (blk c (lnk c ⟨i.val / 32, hb⟩)).val = i.val / 32 := congrArg Fin.val (blk_lnk c ⟨i.val / 32, hb⟩)
    show 32 * ((16 * (c.val / 4) + (blk c (lnk c ⟨i.val / 32, hb⟩)).val) % 32) + i.val % 32 = 512 * (c.val / 4) + i.val
    omega
  rw [← e, ← h]
  unfold outAt
  refine congrArg (oval (F := Ideal) X G c _) (funext fun a => ?_)
  fin_cases a <;> rfl

end Result

end Cert.KernelIdeal.Run

end
-- ==== Proof.Algebraic.lean ====
/- Each device's result is its half of the reference's. -/
module

public import proofs.«01_k».proof.Defs
public import proofs.«01_k».proof.Proof.Value

@[expose] public section

noncomputable section

namespace Cert.Proof

open Idealize.ShloMosaic Idealize.ShloMosaic.TcCoe Idealize.SL.Sem Idealize.ShloMosaic.StableHlo
open Cert.KernelIdeal Cert.KernelIdeal.Gen Cert.KernelIdeal.Run

/-- The scale is staged as one row, the argument's elements in order. -/
theorem staged_scale (m : (ℓ : Loc nD τ sig) → Buf (Elt Ideal) ℓ) (c : Dev nD) (j : Fin 512) :
    stagedG m c (ix2 0 j) = m (c.tc.loc main_arg1) (ix1 j) := by
  rw [stagedG_eq]
  have h : V m c main_v1 = broadcastInDim S1x512 ![1] bcast_S512_S1x512_1 (m (c.tc.loc main_arg1)) := by
    unfold V
    after_results
  rw [h]
  pointwise

/-- A device's coordinate along the first axis of the mesh. -/
theorem coord_half (c : Dev nD) : Layout.meshLin [2, 2, 2] c.val [0] = (half c).val := by revert c; decide

/-- The idealized kernel computes the reference's rows. -/
theorem value : Cert.algebraic_KernelIdeal_ReferenceIdeal := by
  intro m ρ m' ρ' _ hagree
  obtain ⟨v, hv, hr⟩ := reference_run m' ρ'
  refine ⟨v, (θ_run Cert.KernelIdeal.defs _ _).mono (fun _ h c => ⟨((h.1 c).2.2).trans ?_, (h.1 c).1, (h.1 c).2.1⟩) (run_main (F := Ideal) m ρ), hr⟩
  have hX : ∀ (c : Dev nD) (R : Fin 1024) (k : Fin 512), stagedP m c (ix3 0 R k)
      = m' ((0 : Dev Cert.ReferenceIdeal.nD).tc.loc Cert.ReferenceIdeal.main_arg0) (ix3 (half c) R k) := fun c R k => by
    rw [stagedP_eq]
    refine (congrFun (hagree c).1 _).trans (congrArg (m' ((0 : Dev Cert.ReferenceIdeal.nD).tc.loc Cert.ReferenceIdeal.main_arg0)) (funext fun a => Fin.ext ?_))
    fin_cases a
    · show Layout.meshLin [2, 2, 2] c.val [0] * 1 + 0 = (half c).val
      rw [coord_half]; omega
    · show 0 * 1024 + R.val = R.val; omega
    · show 0 * 512 + k.val = k.val; omega
  have hG : ∀ (c : Dev nD) (j : Fin 512), stagedG m c (ix2 0 j)
      = m' ((0 : Dev Cert.ReferenceIdeal.nD).tc.loc Cert.ReferenceIdeal.main_arg1) (ix1 j) := fun c j =>
    (staged_scale m c j).trans (congrFun (hagree c).2 _)
  funext i
  obtain ⟨r, j, rfl⟩ : ∃ r j, i = ix2 r j := ⟨i 0, i 1, (ix2_eta i).symm⟩
  refine (outAt_at _ _ _ _ hX hG c r j).trans ((hv _ j).symm.trans (congrArg v (funext fun a => Fin.ext ?_)))
  fin_cases a
  · show 512 * (half c).val + r.val = Layout.meshLin [2, 2, 2] c.val [0] * 512 + r.val
    rw [coord_half]; omega
  · show j.val = 0 * 512 + j.val; omega

end Cert.Proof

end
-- ==== Proof.lean ====
/- The claims of Defs.lean, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims: the three frames, that the idealized kernel is the kernel's text, and the value. -/
theorem claim : Cert.Claim :=
  ⟨Cert.Kernel.Gen.facts, Cert.KernelIdeal.Gen.facts, Cert.ReferenceIdeal.Gen.facts,
    frame_kernel, frame_ideal, frame_reference, trivial, value⟩

end Cert.Proof

end
